-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x200 : Shape := ⟨2, ![1024, 200]⟩
abbrev S3x128 : Shape := ⟨2, ![3, 128]⟩
abbrev S4x128 : Shape := ⟨2, ![4, 128]⟩
abbrev S9x128 : Shape := ⟨2, ![9, 128]⟩
abbrev S5x128 : Shape := ⟨2, ![5, 128]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn_part1 {F : FTy → Type} [FloatOps F] (main_arg2 : IVec S1024x200 32) (main_arg3 : IVec S1024x200 32) (main_v12 : IVec S_ 1) (main_v14 : IVec S1024x200 1) (main_v15 : IVec S1024x200 32) : IVec S_ 1 :=
  let main_v16 : IVec S1024x200 1 := cmpi .slt main_arg2 main_v15
  let main_v17 : IVec S1024x200 1 := andi main_v14 main_v16
  let main_c_7 : IVec S_ 1 := constantI S_ 1 1#1
  let main_v18 : IVec S_ 1 := (fun x v => Host.reduce IntOp.andi x v reducesTo_S1024x200_S_d0_1 h_S_) main_v17 main_c_7
  let main_v19 : IVec S_ 1 := andi main_v12 main_v18
  let main_c_8 : IVec S_ 32 := constantI S_ 32 0#32
  let main_v20 : IVec S1024x200 32 := broadcastInDim S1024x200 ![] bcast_S_S1024x200 main_c_8
  let main_v21 : IVec S1024x200 1 := cmpi .sge main_arg3 main_v20
  let main_c_9 : IVec S_ 32 := constantI S_ 32 5#32
  let main_v22 : IVec S1024x200 32 := broadcastInDim S1024x200 ![] bcast_S_S1024x200 main_c_9
  let main_v23 : IVec S1024x200 1 := cmpi .slt main_arg3 main_v22
  let main_v24 : IVec S1024x200 1 := andi main_v21 main_v23
  let main_c_10 : IVec S_ 1 := constantI S_ 1 1#1
  let main_v25 : IVec S_ 1 := (fun x v => Host.reduce IntOp.andi x v reducesTo_S1024x200_S_d0_1 h_S_) main_v24 main_c_10
  let main_v26 : IVec S_ 1 := andi main_v19 main_v25
  main_v26

def fn {F : FTy → Type} [FloatOps F] (main_arg0 : IVec S1024x200 32) (main_arg1 : IVec S1024x200 32) (main_arg2 : IVec S1024x200 32) (main_arg3 : IVec S1024x200 32) (main_arg4 : FVec F S3x128 .f32) (main_arg5 : FVec F S4x128 .f32) (main_arg6 : FVec F S9x128 .f32) (main_arg7 : FVec F S5x128 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 3#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  let main_c_2 : IVec S_ 32 := constantI S_ 32 0#32
  let main_v6 : IVec S1024x200 32 := broadcastInDim S1024x200 ![] bcast_S_S1024x200 main_c_2
  let main_v7 : IVec S1024x200 1 := cmpi .sge main_arg1 main_v6
  let main_c_3 : IVec S_ 32 := constantI S_ 32 4#32
  let main_v8 : IVec S1024x200 32 := broadcastInDim S1024x200 ![] bcast_S_S1024x200 main_c_3
  let main_v9 : IVec S1024x200 1 := cmpi .slt main_arg1 main_v8
  let main_v10 : IVec S1024x200 1 := andi main_v7 main_v9
  let main_c_4 : IVec S_ 1 := constantI S_ 1 1#1
  let main_v11 : IVec S_ 1 := (fun x v => Host.reduce IntOp.andi x v reducesTo_S1024x200_S_d0_1 h_S_) main_v10 main_c_4
  let main_v12 : IVec S_ 1 := andi main_v5 main_v11
  let main_c_5 : IVec S_ 32 := constantI S_ 32 0#32
  let main_v13 : IVec S1024x200 32 := broadcastInDim S1024x200 ![] bcast_S_S1024x200 main_c_5
  let main_v14 : IVec S1024x200 1 := cmpi .sge main_arg2 main_v13
  let main_c_6 : IVec S_ 32 := constantI S_ 32 9#32
  let main_v15 : IVec S1024x200 32 := broadcastInDim S1024x200 ![] bcast_S_S1024x200 main_c_6
  fn_part1 (F := F) main_arg2 main_arg3 main_v12 main_v14 main_v15
-- ==== Kernel.lean ====
abbrev S1024x200 : Shape := ⟨2, ![1024, 200]⟩
abbrev S3x128 : Shape := ⟨2, ![3, 128]⟩
abbrev S4x128 : Shape := ⟨2, ![4, 128]⟩
abbrev S9x128 : Shape := ⟨2, ![9, 128]⟩
abbrev S5x128 : Shape := ⟨2, ![5, 128]⟩
abbrev S_ : Shape := ⟨0, ![]⟩
abbrev S8x128 : Shape := ⟨2, ![8, 128]⟩
abbrev S16x128 : Shape := ⟨2, ![16, 128]⟩
abbrev S544x128 : Shape := ⟨2, ![544, 128]⟩
abbrev S544x1 : Shape := ⟨2, ![544, 1]⟩
abbrev S544x8 : Shape := ⟨2, ![544, 8]⟩
abbrev S544x16 : Shape := ⟨2, ![544, 16]⟩
abbrev S204800 : Shape := ⟨1, ![204800]⟩
abbrev S204800x128 : Shape := ⟨2, ![204800, 128]⟩
abbrev S128 : Shape := ⟨1, ![128]⟩
abbrev S128x128 : Shape := ⟨2, ![128, 128]⟩
abbrev S1024x200x128 : Shape := ⟨3, ![1024, 200, 128]⟩

abbrev nBuf : Table → Nat
  | .hbm => 25
  | .local .tc .vmem => 10
  | .local .scVector .vmem => 2
  | _ => 0

abbrev bufTy : (tb : Table) → Fin (nBuf tb) → BufTy
  | .hbm, ⟨0, _⟩ => ⟨S1024x200, .i32⟩
  | .hbm, ⟨1, _⟩ => ⟨S1024x200, .i32⟩
  | .hbm, ⟨2, _⟩ => ⟨S1024x200, .i32⟩
  | .hbm, ⟨3, _⟩ => ⟨S1024x200, .i32⟩
  | .hbm, ⟨4, _⟩ => ⟨S3x128, .f32⟩
  | .hbm, ⟨5, _⟩ => ⟨S4x128, .f32⟩
  | .hbm, ⟨6, _⟩ => ⟨S9x128, .f32⟩
  | .hbm, ⟨7, _⟩ => ⟨S5x128, .f32⟩
  | .hbm, ⟨8, _⟩ => ⟨S_, .i32⟩
  | .hbm, ⟨9, _⟩ => ⟨S_, .f32⟩
  | .hbm, ⟨10, _⟩ => ⟨S8x128, .f32⟩
  | .hbm, ⟨11, _⟩ => ⟨S_, .i32⟩
  | .hbm, ⟨12, _⟩ => ⟨S_, .f32⟩
  | .hbm, ⟨13, _⟩ => ⟨S8x128, .f32⟩
  | .hbm, ⟨14, _⟩ => ⟨S_, .i32⟩
  | .hbm, ⟨15, _⟩ => ⟨S_, .f32⟩
  | .hbm, ⟨16, _⟩ => ⟨S16x128, .f32⟩
  | .hbm, ⟨17, _⟩ => ⟨S_, .i32⟩
  | .hbm, ⟨18, _⟩ => ⟨S_, .f32⟩
  | .hbm, ⟨19, _⟩ => ⟨S8x128, .f32⟩
  | .hbm, ⟨20, _⟩ => ⟨S1024x200, .i32⟩
  | .hbm, ⟨21, _⟩ => ⟨S544x128, .f32⟩
  | .hbm, ⟨22, _⟩ => ⟨S204800, .i32⟩
  | .hbm, ⟨23, _⟩ => ⟨S204800x128, .f32⟩
  | .hbm, ⟨24, _⟩ => ⟨S1024x200x128, .f32⟩
  | .local .tc .vmem, ⟨0, _⟩ => ⟨S1024x200, .i32⟩
  | .local .tc .vmem, ⟨1, _⟩ => ⟨S1024x200, .i32⟩
  | .local .tc .vmem, ⟨2, _⟩ => ⟨S1024x200, .i32⟩
  | .local .tc .vmem, ⟨3, _⟩ => ⟨S1024x200, .i32⟩
  | .local .tc .vmem, ⟨4, _⟩ => ⟨S8x128, .f32⟩
  | .local .tc .vmem, ⟨5, _⟩ => ⟨S8x128, .f32⟩
  | .local .tc .vmem, ⟨6, _⟩ => ⟨S16x128, .f32⟩
  | .local .tc .vmem, ⟨7, _⟩ => ⟨S8x128, .f32⟩
  | .local .tc .vmem, ⟨8, _⟩ => ⟨S1024x200, .i32⟩
  | .local .tc .vmem, ⟨9, _⟩ => ⟨S544x128, .f32⟩
  | .local .scVector .vmem, ⟨0, _⟩ => ⟨S128, .i32⟩
  | .local .scVector .vmem, ⟨1, _⟩ => ⟨S128x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_c_1 : Ref sig .tc := ⟨.hbm, 14, rfl⟩
abbrev main_call2_v0 : Ref sig .tc := ⟨.hbm, 15, rfl⟩
abbrev main_v2 : Ref sig .tc := ⟨.hbm, 16, rfl⟩
abbrev main_c_2 : Ref sig .tc := ⟨.hbm, 17, rfl⟩
abbrev main_call3_v0 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v5_scv : Ref sig .scVector := ⟨.hbm, 22, rfl⟩
abbrev main_v4_1_scv : Ref sig .scVector := ⟨.hbm, 21, rfl⟩
abbrev main_v6_scv : Ref sig .scVector := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S1024x200 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x200 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x200 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x200 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x200 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S544x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨2, ![2, 16], ![false, false]⟩

@[reducible] def k1_t1_loop : Scf.Loop 32 :=
  let c0_i32_0 : BitVec 32 := 0#32
  let c50_i32 : BitVec 32 := 50#32
  let v3 : BitVec 32 := Scalar.addi c0_i32_0 c50_i32
  let c1_i32 : BitVec 32 := 1#32
  ⟨c0_i32_0, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_0 : BitVec 32 := 0#32
  let c1_i32 : BitVec 32 := 1#32
  let arg8 : BitVec 32 := Scf.iv c0_i32_0 c1_i32 k1_t1
  let c128_i32 : BitVec 32 := 128#32
  let v4 : BitVec 32 := Scalar.muli arg8 c128_i32
  let v5 : BitVec 32 := Scalar.addi v2 v4
  ![v5.toNat]
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_0 : BitVec 32 := 0#32
  let c1_i32 : BitVec 32 := 1#32
  let arg8 : BitVec 32 := Scf.iv c0_i32_0 c1_i32 k1_t1
  let c128_i32 : BitVec 32 := 128#32
  let v4 : BitVec 32 := Scalar.muli arg8 c128_i32
  let v5 : BitVec 32 := Scalar.addi v2 v4
  let c0_i32_6_r1 : BitVec 32 := 0#32
  ![v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S3x128 : Shape := ⟨2, ![3, 128]⟩
abbrev S4x128 : Shape := ⟨2, ![4, 128]⟩
abbrev S9x128 : Shape := ⟨2, ![9, 128]⟩
abbrev S5x128 : Shape := ⟨2, ![5, 128]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩

abbrev nBuf : Space → Nat
  | .hbm => 103
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024x200, .i32⟩
  | .hbm, ⟨2, _⟩ => ⟨S1024x200, .i32⟩
  | .hbm, ⟨3, _⟩ => ⟨S1024x200, .i32⟩
  | .hbm, ⟨4, _⟩ => ⟨S3x128, .f32⟩
  | .hbm, ⟨5, _⟩ => ⟨S4x128, .f32⟩
  | .hbm, ⟨6, _⟩ => ⟨S9x128, .f32⟩
  | .hbm, ⟨7, _⟩ => ⟨S5x128, .f32⟩
  | .hbm, ⟨8, _⟩ => ⟨S_, .i32⟩
  | .hbm, ⟨9, _⟩ => ⟨S1024x200, .i32⟩
  | .hbm, ⟨10, _⟩ => ⟨S1024x200, .i1⟩
  | .hbm, ⟨11, _⟩ => ⟨S_, .i32⟩
  | .hbm, ⟨12, _⟩ => ⟨S1024x200, .i32⟩
  | .hbm, ⟨13, _⟩ => ⟨S1024x200, .i32⟩
  | .hbm, ⟨14, _⟩ => ⟨S1024x200, .i32⟩
  | .hbm, ⟨15, _⟩ => ⟨S1024x200x1, .i32⟩
  | .hbm, ⟨16, _⟩ => ⟨S1, .i32⟩
  | .hbm, ⟨17, _⟩ => ⟨S_, .i32⟩
  | .hbm, ⟨18, _⟩ => ⟨S1024x200x1, .i32⟩
  | .hbm, ⟨19, _⟩ => ⟨S1024x200x1, .i1⟩
  | .hbm, ⟨20, _⟩ => ⟨S1x1x1, .i32⟩
  | .hbm, ⟨21, _⟩ => ⟨S1024x200x1, .i32⟩
  | .hbm, ⟨22, _⟩ => ⟨S1024x200x1, .i1⟩
  | .hbm, ⟨23, _⟩ => ⟨S1024x200x1, .i1⟩
  | .hbm, ⟨24, _⟩ => ⟨S_, .i1⟩
  | .hbm, ⟨25, _⟩ => ⟨S1024x200, .i1⟩
  | .hbm, ⟨26, _⟩ => ⟨S1024x200x128, .f32⟩
  | .hbm, ⟨27, _⟩ => ⟨S1024x200x128, .i1⟩
  | .hbm, ⟨28, _⟩ => ⟨S_, .f32⟩
  | .hbm, ⟨29, _⟩ => ⟨S1024x200x128, .f32⟩
  | .hbm, ⟨30, _⟩ => ⟨S1024x200x128, .f32⟩
  | .hbm, ⟨31, _⟩ => ⟨S_, .i32⟩
  | .hbm, ⟨32, _⟩ => ⟨S1024x200, .i32⟩
  | .hbm, ⟨33, _⟩ => ⟨S1024x200, .i1⟩
  | .hbm, ⟨34, _⟩ => ⟨S_, .i32⟩
  | .hbm, ⟨35, _⟩ => ⟨S1024x200, .i32⟩
  | .hbm, ⟨36, _⟩ => ⟨S1024x200, .i32⟩
  | .hbm, ⟨37, _⟩ => ⟨S1024x200, .i32⟩
  | .hbm, ⟨38, _⟩ => ⟨S1024x200x1, .i32⟩
  | .hbm, ⟨39, _⟩ => ⟨S1, .i32⟩
  | .hbm, ⟨40, _⟩ => ⟨S_, .i32⟩
  | .hbm, ⟨41, _⟩ => ⟨S1024x200x1, .i32⟩
  | .hbm, ⟨42, _⟩ => ⟨S1024x200x1, .i1⟩
  | .hbm, ⟨43, _⟩ => ⟨S1x1x1, .i32⟩
  | .hbm, ⟨44, _⟩ => ⟨S1024x200x1, .i32⟩
  | .hbm, ⟨45, _⟩ => ⟨S1024x200x1, .i1⟩
  | .hbm, ⟨46, _⟩ => ⟨S1024x200x1, .i1⟩
  | .hbm, ⟨47, _⟩ => ⟨S_, .i1⟩
  | .hbm, ⟨48, _⟩ => ⟨S1024x200, .i1⟩
  | .hbm, ⟨49, _⟩ => ⟨S1024x200x128, .f32⟩
  | .hbm, ⟨50, _⟩ => ⟨S1024x200x128, .i1⟩
  | .hbm, ⟨51, _⟩ => ⟨S_, .f32⟩
  | .hbm, ⟨52, _⟩ => ⟨S1024x200x128, .f32⟩
  | .hbm, ⟨53, _⟩ => ⟨S1024x200x128, .f32⟩
  | .hbm, ⟨54, _⟩ => ⟨S_, .i32⟩
  | .hbm, ⟨55, _⟩ => ⟨S1024x200, .i32⟩
  | .hbm, ⟨56, _⟩ => ⟨S1024x200, .i1⟩
  | .hbm, ⟨57, _⟩ => ⟨S_, .i32⟩
  | .hbm, ⟨58, _⟩ => ⟨S1024x200, .i32⟩
  | .hbm, ⟨59, _⟩ => ⟨S1024x200, .i32⟩
  | .hbm, ⟨60, _⟩ => ⟨S1024x200, .i32⟩
  | .hbm, ⟨61, _⟩ => ⟨S1024x200x1, .i32⟩
  | .hbm, ⟨62, _⟩ => ⟨S1, .i32⟩
  | .hbm, ⟨63, _⟩ => ⟨S_, .i32⟩
  | .hbm, ⟨64, _⟩ => ⟨S1024x200x1, .i32⟩
  | .hbm, ⟨65, _⟩ => ⟨S1024x200x1, .i1⟩
  | .hbm, ⟨66, _⟩ => ⟨S1x1x1, .i32⟩
  | .hbm, ⟨67, _⟩ => ⟨S1024x200x1, .i32⟩
  | .hbm, ⟨68, _⟩ => ⟨S1024x200x1, .i1⟩
  | .hbm, ⟨69, _⟩ => ⟨S1024x200x1, .i1⟩
  | .hbm, ⟨70, _⟩ => ⟨S_, .i1⟩
  | .hbm, ⟨71, _⟩ => ⟨S1024x200, .i1⟩
  | .hbm, ⟨72, _⟩ => ⟨S1024x200x128, .f32⟩
  | .hbm, ⟨73, _⟩ => ⟨S1024x200x128, .i1⟩
  | .hbm, ⟨74, _⟩ => ⟨S_, .f32⟩
  | .hbm, ⟨75, _⟩ => ⟨S1024x200x128, .f32⟩
  | .hbm, ⟨76, _⟩ => ⟨S1024x200x128, .f32⟩
  | .hbm, ⟨77, _⟩ => ⟨S_, .i32⟩
  | .hbm, ⟨78, _⟩ => ⟨S1024x200, .i32⟩
  | .hbm, ⟨79, _⟩ => ⟨S1024x200, .i1⟩
  | .hbm, ⟨80, _⟩ => ⟨S_, .i32⟩
  | .hbm, ⟨81, _⟩ => ⟨S1024x200, .i32⟩
  | .hbm, ⟨82, _⟩ => ⟨S1024x200, .i32⟩
  | .hbm, ⟨83, _⟩ => ⟨S1024x200, .i32⟩
  | .hbm, ⟨84, _⟩ => ⟨S1024x200x1, .i32⟩
  | .hbm, ⟨85, _⟩ => ⟨S1, .i32⟩
  | .hbm, ⟨86, _⟩ => ⟨S_, .i32⟩
  | .hbm, ⟨87, _⟩ => ⟨S1024x200x1, .i32⟩
  | .hbm, ⟨88, _⟩ => ⟨S1024x200x1, .i1⟩
  | .hbm, ⟨89, _⟩ => ⟨S1x1x1, .i32⟩
  | .hbm, ⟨90, _⟩ => ⟨S1024x200x1, .i32⟩
  | .hbm, ⟨91, _⟩ => ⟨S1024x200x1, .i1⟩
  | .hbm, ⟨92, _⟩ => ⟨S1024x200x1, .i1⟩
  | .hbm, ⟨93, _⟩ => ⟨S_, .i1⟩
  | .hbm, ⟨94, _⟩ => ⟨S1024x200, .i1⟩
  | .hbm, ⟨95, _⟩ => ⟨S1024x200x128, .f32⟩
  | .hbm, ⟨96, _⟩ => ⟨S1024x200x128, .i1⟩
  | .hbm, ⟨97, _⟩ => ⟨S_, .f32⟩
  | .hbm, ⟨98, _⟩ => ⟨S1024x200x128, .f32⟩
  | .hbm, ⟨99, _⟩ => ⟨S1024x200x128, .f32⟩
  | .hbm, ⟨100, _⟩ => ⟨S1024x200x128, .f32⟩
  | .hbm, ⟨101, _⟩ => ⟨S1024x200x128, .f32⟩
  | .hbm, ⟨102, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v2 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_call3_cst : Ref sig .tc := ⟨.hbm, 97, rfl⟩
abbrev main_call3_v15 : Ref sig .tc := ⟨.hbm, 98, rfl⟩
abbrev main_v3 : Ref sig .tc := ⟨.hbm, 99, rfl⟩
abbrev main_v4 : Ref sig .tc := ⟨.hbm, 100, rfl⟩
abbrev main_v5 : Ref sig .tc := ⟨.hbm, 101, rfl⟩
abbrev main_v6 : Ref sig .tc := ⟨.hbm, 102, rfl⟩

abbrev nD : Nat := 1
abbrev τ : Topo := Topo.v7x

variable {F : FTy → Type} [FloatOps F]
-- ==== Proof.Range.lean ====
/-
  The precondition, read: each word of the four index arrays is a row number of its table.
-/
module

public import proofs.«01_k».proof.Proof.Gen.Pre_in_range
public import Idealize.ShloMosaic.Lib.ReduceAll
public import Idealize.ShloMosaic.Lib.WordCmp

@[expose] public section

noncomputable section

namespace Cert.Proof.Range

open Cert.Pre_in_range Cert.Pre_in_range.Gen Idealize.ShloMosaic

variable {F : FTy → Type} [FloatOps F]

instance : Subsingleton S_.Idx := ⟨fun a b => funext fun i => i.elim0⟩

/-- A word of 32 bits at least zero and below `n`, both read signed, is below `n` read unsigned. -/
theorem word_lt (x : BitVec 32) (n : Nat) (hn : n < 2 ^ 31) (h : IntOp.andi (IntOp.cmpi .sge x 0#32) (IntOp.cmpi .slt x (BitVec.ofNat 32 n)) = 1#1) :
    x.toNat < n := by
  obtain ⟨h0, h1⟩ := IntOp.andi_eq_one.1 h
  simp only [IntOp.cmpi, WordCmp.ofBool_eq_one_iff, BitVec.sle_eq_decide, BitVec.slt_eq_decide, decide_eq_true_eq, BitVec.toInt_eq_toNat_cond, BitVec.toNat_ofNat] at h0 h1
  rw [Nat.mod_eq_of_lt (by omega : n < 2 ^ 32)] at h1
  have := x.isLt
  split at h0 <;> split at h1 <;> omega

/-- One conjunct of the precondition: every element compared with both bounds, and all of them true. -/
theorem all_lt (a : S1024x200.Idx → BitVec 32) (n : Nat) (hn : n < 2 ^ 31) (j : S_.Idx)
    (h : Host.reduce IntOp.andi (andi (cmpi .sge a (broadcastInDim S1024x200 ![] Facts.bcast_S_S1024x200 (constantI S_ 32 0#32)))
      (cmpi .slt a (broadcastInDim S1024x200 ![] Facts.bcast_S_S1024x200 (constantI S_ 32 (BitVec.ofNat 32 n)))))
      (constantI S_ 1 1#1) Facts.reducesTo_S1024x200_S_d0_1 Facts.h_S_ j = 1#1) (p : S1024x200.Idx) : (a p).toNat < n :=
  word_lt (a p) n hn (Host.reduce_andi_all _ _ _ _ j h p)

/-- Where the precondition holds, the four words of a position are row numbers of the four tables. -/
theorem rows (a0 a1 a2 a3 : S1024x200.Idx → BitVec 32) (w0 : FVec F S3x128 .f32) (w1 : FVec F S4x128 .f32) (w2 : FVec F S9x128 .f32) (w3 : FVec F S5x128 .f32)
    (h : fn a0 a1 a2 a3 w0 w1 w2 w3 = fun _ => 1#1) (p : S1024x200.Idx) :
    (a0 p).toNat < 3 ∧ (a1 p).toNat < 4 ∧ (a2 p).toNat < 9 ∧ (a3 p).toNat < 5 := by
  have j : S_.Idx := fun i => i.elim0
  obtain ⟨h012, h3⟩ := IntOp.andi_eq_one.1 (congrFun h j)
  obtain ⟨h01, h2⟩ := IntOp.andi_eq_one.1 h012
  obtain ⟨h0, h1⟩ := IntOp.andi_eq_one.1 h01
  exact ⟨all_lt a0 3 (by decide) j h0 p, all_lt a1 4 (by decide) j h1 p, all_lt a2 9 (by decide) j h2 p, all_lt a3 5 (by decide) j h3 p⟩

end Cert.Proof.Range

end
-- ==== Proof.Idl.Setup.lean ====
/-
  The program as the SparseCore launch theorem sees it, and the vocabulary every other module of this certificate uses:
  the call's configuration, the resource algebra (the handshakes' rounds library, the TensorCore pipeline's, the
  transfers' counters), the buffers the SparseCore call works on, the 1600 chunks the result is written in, and the
  rows the call leaves there.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.ValueIdx
public import Idealize.ShloMosaic.Lib.Tactic

@[expose] public section

noncomputable section

namespace Cert.Proof.Idl

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The launch's configuration -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the launch semaphores and of the SparseCores' buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library inside the machine's resources, -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- and the TensorCore pipeline's. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The SparseCore call's buffers -/

/-- The combined indices, the combined table and the gathered rows, as locations of device `d`. -/
abbrev iLoc (d : Dev nD) : Loc nD τ sig := (SparseCore.T d).loc main_v5
abbrev xLoc (d : Dev nD) : Loc nD τ sig := (SparseCore.T d).loc main_v4_1
abbrev oLoc (d : Dev nD) : Loc nD τ sig := (SparseCore.T d).loc main_v6

/-- The same as a tile names them, its list buffer and its row buffer. -/
abbrev iV : Memref sig .scVector .hbm S204800 .i32 := Memref.whole main_v5_scv
abbrev xV : Memref sig .scVector .hbm S544x128 .f32 := Memref.whole main_v4_1_scv
abbrev oV : Memref sig .scVector .hbm S204800x128 .f32 := Memref.whole main_v6_scv
abbrev sV : Memref sig .scVector .vmem S128 .i32 := Memref.whole cc1_scratch0
abbrev rV : Memref sig .scVector .vmem S128x128 .f32 := Memref.whole cc1_scratch1

/-! ## Tiles and chunks -/

/-- The grid point of task `i` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The tile's 128 indices of trip `t`, the whole table, and the 128 rows of the result they fill, as the tile slices them. -/
abbrev idxM (L : grid1.Coords) (t : Fin k1_t1_loop.trips) : Memref sig .scVector .hbm S128 .i32 :=
  (iV).slice (Rect.unit (s := S204800) (k1_off1 L t) S128.size (k1_off1_inb L t)) (fun _ => rfl)
abbrev tabM : Memref sig .scVector .hbm S544x128 .f32 :=
  (xV).slice (Rect.unit (s := S544x128) ![0, 0] S544x128.size inb_S544x128_S544x128_0_0) (fun _ => rfl)
abbrev outM (L : grid1.Coords) (t : Fin k1_t1_loop.trips) : Memref sig .scVector .hbm S128x128 .f32 :=
  (oV).slice (Rect.unit (s := S204800x128) (k1_off2 L t) S128x128.size (k1_off2_inb L t)) (fun _ => rfl)

/-- The elements of the result that trip `t` of the tile at `L` writes. -/
abbrev outSet (L : grid1.Coords) (t : Fin k1_t1_loop.trips) : Finset S204800x128.Idx := (outM L t).view.set

/-! ## What the call leaves -/

/-- The gathered rows: row `y` of the result is the row of the table that word `y` of the list names. -/
def gath (ix : S204800.Idx → BitVec 32) (tb : S544x128.Idx → Elt F .f32) : S204800x128.Idx → Elt F .f32 :=
  fun y => tb (ix2 (n0 := 544) (n1 := 128) ⟨(ix (ix1 (n := 204800) (y 0))).toNat % 544, Nat.mod_lt _ (by decide)⟩ (y 1))

end Cert.Proof.Idl

end
-- ==== Proof.Idl.Tile.lean ====
/-
  One tile of the SparseCore call, at a symbolic grid point: fifty trips, each fetching 128 indices into the list
  buffer, gathering the 128 rows they name into the row buffer, and copying those to the trip's rows of the result.
  The loop's invariant holds the trips already done at the gathered rows and the others untouched.
-/
module

public import proofs.«01_k».proof.Proof.Idl.Setup

@[expose] public section

set_option maxRecDepth 16384

noncomputable section

namespace Cert.Proof.Idl

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (d : Dev nD) (L : grid1.Coords)

/-- The tile's thread. -/
abbrev tileAt : Thread nD τ := V d ((L 0).castLE hcore1) ((L 1).castLE hsub1)

/-! ## The tile's own semaphores and buffers -/

/-- The three cells a trip waits on: the index fetch's, the gather's, the write-out's. -/
abbrev fetchCell : GSem nD τ sig := (tileAt d L, .dma cc1_scoped0.sem)
abbrev gatherCell : GSem nD τ sig := (tileAt d L, .dma cc1_scratch2.sem)
abbrev outCell : GSem nD τ sig := (tileAt d L, .dma cc1_scoped1.sem)

/-- Those three are among the tile's own semaphores: they are them and the rest. -/
theorem ownSems0_tile :
    (SparseCore.Cfg.ownSems0 (tileAt d L) : sProp 𝕄)
      = iprop(semVal (fetchCell d L) 0 ∗ semVal (gatherCell d L) 0 ∗ semVal (outCell d L) 0
          ∗ bigSep ((((SparseCore.Cfg.ownCells (tileAt d L)).erase (fetchCell d L)).erase (gatherCell d L)).erase (outCell d L)) fun g => semVal g 0) := by
  have h1 : fetchCell d L ∈ SparseCore.Cfg.ownCells (tileAt d L) :=
    SparseCore.Cfg.mem_ownCells.mpr ⟨rfl, by show (SemLoc.dma cc1_scoped0.sem : SemLoc sig).isScoped .scVector = true; decide⟩
  have h2 : gatherCell d L ∈ SparseCore.Cfg.ownCells (tileAt d L) :=
    SparseCore.Cfg.mem_ownCells.mpr ⟨rfl, by show (SemLoc.dma cc1_scratch2.sem : SemLoc sig).isScoped .scVector = true; decide⟩
  have h3 : outCell d L ∈ SparseCore.Cfg.ownCells (tileAt d L) :=
    SparseCore.Cfg.mem_ownCells.mpr ⟨rfl, by show (SemLoc.dma cc1_scoped1.sem : SemLoc sig).isScoped .scVector = true; decide⟩
  have n21 : gatherCell d L ≠ fetchCell d L := by simp only [ne_eq, Prod.mk.injEq, true_and]; decide
  have n31 : outCell d L ≠ fetchCell d L := by simp only [ne_eq, Prod.mk.injEq, true_and]; decide
  have n32 : outCell d L ≠ gatherCell d L := by simp only [ne_eq, Prod.mk.injEq, true_and]; decide
  unfold SparseCore.Cfg.ownSems0
  rw [SparseCore.bigSep_erase' h1, SparseCore.bigSep_erase' (Finset.mem_erase.mpr ⟨n21, h2⟩),
    SparseCore.bigSep_erase' (Finset.mem_erase.mpr ⟨n32, Finset.mem_erase.mpr ⟨n31, h3⟩⟩)]

/-- The list buffer and the row buffer are among the tile's own buffers: they are them, at some contents, and the rest. -/
theorem ownBufs_tile :
    (SparseCore.Cfg.ownBufs (tileAt d L) : sProp 𝕄)
      = iprop((∃ f, (sV).view.loc (tileAt d L) ↦{fullShare} f) ∗ (∃ f, (rV).view.loc (tileAt d L) ↦{fullShare} f)
          ∗ bigSep (((SparseCore.Cfg.ownRefs (τ := τ) (tileAt d L).2).erase ((tileAt d L).2.devRef cc1_scratch0)).erase
              ((tileAt d L).2.devRef cc1_scratch1))
              fun b => iprop(∃ f, ((d, b) : Loc nD τ sig) ↦{fullShare} f)) := by
  have h0 : (tileAt d L).2.devRef cc1_scratch0 ∈ SparseCore.Cfg.ownRefs (τ := τ) (tileAt d L).2 :=
    SparseCore.Cfg.mem_ownRefs_of_owner rfl
  have h1 : (tileAt d L).2.devRef cc1_scratch1 ∈ SparseCore.Cfg.ownRefs (τ := τ) (tileAt d L).2 :=
    SparseCore.Cfg.mem_ownRefs_of_owner rfl
  have n : (tileAt d L).2.devRef cc1_scratch1 ≠ (tileAt d L).2.devRef cc1_scratch0 :=
    fun e => absurd (Proc.devRef_injective _ e) (show (cc1_scratch1 : Ref sig .scVector) ≠ cc1_scratch0 by decide)
  unfold SparseCore.Cfg.ownBufs
  refine (SparseCore.bigSep_erase' h0).trans ?_
  rw [SparseCore.bigSep_erase' (Finset.mem_erase.mpr ⟨n, h1⟩)]

/-! ## What a trip lands -/

variable (ix : S204800.Idx → BitVec 32) (tb : S544x128.Idx → Elt F .f32) (o0 : S204800x128.Idx → Elt F .f32)

/-- Word `j` of the fetched list is word `12800·s + 6400·c + 128·t + j` of the indices. -/
theorem idxM_read (t : Fin k1_t1_loop.trips) (j : S128.Idx) :
    (idxM L t).view.read (Elt F) ix j = ix ((idxM L t).view.emb j) := (View.read_apply _ _).trans (cast_eq _ _)

/-- Two indices of rank one agree when their one coordinate does. -/
theorem single_ext {n : Fin 1 → Nat} {x y : (⟨1, n⟩ : Shape).Idx} (h : (x 0).val = (y 0).val) : x = y := by
  funext a
  match a with
  | 0 => exact Fin.ext h

/-- Two index pairs agree when their coordinates do. -/
theorem pair_ext {n : Fin 2 → Nat} {x y : (⟨2, n⟩ : Shape).Idx} (h0 : (x 0).val = (y 0).val) (h1 : (x 1).val = (y 1).val) : x = y := by
  funext a
  match a with
  | 0 => exact Fin.ext h0
  | 1 => exact Fin.ext h1

/-- The slice of the whole table is the table. -/
theorem tabM_emb (x : S544x128.Idx) : (tabM).view.emb x = x :=
  pair_ext (show 0 + 1 * (x 0).val = (x 0).val by omega) (show 0 + 1 * (x 1).val = (x 1).val by omega)

theorem tabM_read (x : S544x128.Idx) : (tabM).view.read (Elt F) tb x = tb x := by
  rw [View.read_apply, tabM_emb]; exact cast_eq _ _

/-- The list buffer after a fetch reads back the fetched words, -/
theorem list_read (fs pay : S128.Idx → BitVec 32) :
    (sV).view.read (Elt F) (View.write (Elt F) (sV).view fs pay Finset.univ) = pay := by
  rw [View.write_whole_univ]; simp only [Memref.view_whole, View.read_whole]

/-- each of which is below 544 when all the indices are. -/
theorem list_inb (hix : ∀ j, (ix j).toNat < 544) (t : Fin k1_t1_loop.trips) (fs : S128.Idx → BitVec 32) (x : S128.Idx) :
    ((sV).view.read (Elt F) (View.write (Elt F) (sV).view fs ((idxM L t).view.read (Elt F) ix) Finset.univ) x).toNat
      < S544x128.size gathers_S544x128_S128x128.axis := by
  rw [list_read, idxM_read]; exact hix _

/-- Row `x` of the trip's 128 rows is row `12800·s + 6400·c + 128·t + x` of the result, whose word of the list is word
    `x` of the fetched ones. -/
theorem out_row (t : Fin k1_t1_loop.trips) (x : S128x128.Idx) :
    ix1 (n := 204800) ((outM L t).view.emb x 0) = (idxM L t).view.emb (ix1 (n := 128) (x 0)) := by
  refine single_ext ?_
  show (k1_off2 L t) 0 + 1 * (x 0).val = (k1_off1 L t) 0 + 1 * (x 0).val
  rw [k1_off1_eq, k1_off2_eq]; rfl

theorem out_col (t : Fin k1_t1_loop.trips) (x : S128x128.Idx) : ((outM L t).view.emb x 1).val = (x 1).val := by
  show (k1_off2 L t) 1 + 1 * (x 1).val = (x 1).val
  rw [k1_off2_eq]; show 0 + 1 * (x 1).val = (x 1).val; omega

/-- The rows the gather brings: element `x` is the table's at the row that word `x 0` of the list names. -/
theorem gathered (lst : S128.Idx → BitVec 32) (h : ∀ x, (lst x).toNat < S544x128.size gathers_S544x128_S128x128.axis) (x : S128x128.Idx) :
    SparseCore.gatherPayload gathers_S544x128_S128x128 ((tabM).view.read (Elt F) tb)
        (SparseCore.rows (F := F) lst (rfl : S128.numel = S128x128.size gathers_S544x128_S128x128.axis') h) x
      = tb (ix2 (n0 := 544) (n1 := 128) ⟨(lst (ix1 (n := 128) (x 0))).toNat, h _⟩ (x 1)) := by
  unfold SparseCore.gatherPayload
  rw [tabM_read]
  congr 1
  refine pair_ext ?_ ?_
  · refine (congrArg Fin.val (Shape.Gathers.idx_axis gathers_S544x128_S128x128 _ x)).trans ?_
    show (lst _).toNat = (lst _).toNat
    congr 2
    refine (Equiv.symm_apply_eq _).mpr (Fin.ext ?_)
    exact (Shape.rowMajor_val_one (ix1 (n := 128) (x 0))).symm
  · exact Shape.Gathers.idx_of_ne gathers_S544x128_S128x128 _ x (b := 1) (by decide)

/-- The row buffer, written whole, reads back what was written. -/
theorem row_read (fr pay : S128x128.Idx → Elt F .f32) :
    (rV).view.read (Elt F) (View.write (Elt F) (rV).view fr pay Finset.univ) = pay := by
  rw [View.write_whole_univ]; simp only [Memref.view_whole, View.read_whole]

/-- The row buffer after the gather reads back the rows the fetched words name. -/
theorem rows_read (hix : ∀ j, (ix j).toNat < 544) (t : Fin k1_t1_loop.trips) (fs : S128.Idx → BitVec 32) (fr : S128x128.Idx → Elt F .f32) (x : S128x128.Idx) :
    (rV).view.read (Elt F) (View.write (Elt F) (rV).view fr
        (SparseCore.gatherPayload gathers_S544x128_S128x128 ((tabM).view.read (Elt F) tb)
          (SparseCore.rows (F := F) ((sV).view.read (Elt F) (View.write (Elt F) (sV).view fs ((idxM L t).view.read (Elt F) ix) Finset.univ))
            (rfl : S128.numel = S128x128.size gathers_S544x128_S128x128.axis') (list_inb L ix hix t fs))) Finset.univ) x
      = tb (ix2 (n0 := 544) (n1 := 128) ⟨(ix ((idxM L t).view.emb (ix1 (n := 128) (x 0)))).toNat, hix _⟩ (x 1)) := by
  refine (congrFun (row_read fr _) x).trans ((gathered tb _ _ x).trans ?_)
  congr 2
  exact Fin.ext (congrArg BitVec.toNat ((congrFun (list_read fs _) _).trans (idxM_read L ix t _)))

/-- What a trip leaves on its rows of the result: the gathered rows. -/
theorem trip_lands (hix : ∀ j, (ix j).toNat < 544) (t : Fin k1_t1_loop.trips) (w : S128x128.Idx → Elt F .f32)
    (hw : ∀ x, w x = tb (ix2 (n0 := 544) (n1 := 128) ⟨(ix ((idxM L t).view.emb (ix1 (n := 128) (x 0)))).toNat, hix _⟩ (x 1))) :
    ∀ i ∈ outSet L t, (outM L t).view.writes (Elt F) o0 [⟨Rect.whole S128x128, w⟩] i = gath ix tb i := by
  intro i hi
  obtain ⟨x, rfl⟩ : ∃ x, (outM L t).view.emb x = i := by obtain ⟨x, -, e⟩ := Finset.mem_map.mp hi; exact ⟨x, e⟩
  have he : ((outM L t).view.slice (Rect.whole S128x128)).emb x = (outM L t).view.emb x :=
    congrArg (outM L t).view.emb (Rect.emb_whole_apply S128x128 x)
  refine ((congrArg _ he.symm).trans (View.write_emb_of_mem (v := (outM L t).view.slice (Rect.whole S128x128)) o0 w (Finset.mem_univ x))).trans ?_
  refine (cast_eq _ _).trans ((hw x).trans ?_)
  unfold gath
  congr 1
  refine pair_ext ?_ ?_
  · show (ix _).toNat = (ix _).toNat % 544
    rw [out_row, Nat.mod_eq_of_lt (hix _)]
  · exact (out_col L t x).symm

/-! ## The loop -/

variable (qi qx : PosShare TreeShare)

/-- The rows of trip `t` at contents `f`. -/
abbrev rowsAt (t : Fin k1_t1_loop.trips) (f : S204800x128.Idx → Elt F .f32) : sProp 𝕄 :=
  (outM L t).view.loc (tileAt d L) ↦[outSet L t]{fullShare} f

/-- The result's rows before trip `n`: those of the earlier trips gathered, the others as they came. -/
def rowsBefore (n : Nat) : sProp 𝕄 :=
  bigSep Finset.univ fun t : Fin k1_t1_loop.trips => rowsAt (F := F) d L t (if t.val < n then gath ix tb else o0)

/-- Before trip `t` its own rows are untouched; -/
theorem rowsBefore_take (t : Fin k1_t1_loop.trips) :
    rowsBefore d L ix tb o0 t.val = iprop(rowsAt (F := F) d L t o0
      ∗ bigSep (Finset.univ.erase t) fun u : Fin k1_t1_loop.trips => rowsAt (F := F) d L u (if u.val < t.val then gath ix tb else o0)) := by
  unfold rowsBefore
  rw [SparseCore.bigSep_erase' (Finset.mem_univ t), if_neg (Nat.lt_irrefl _)]

/-- after it they are gathered, the other trips' rows unchanged. -/
theorem rowsBefore_put (t : Fin k1_t1_loop.trips) :
    rowsBefore d L ix tb o0 (t.val + 1) = iprop(rowsAt (F := F) d L t (gath ix tb)
      ∗ bigSep (Finset.univ.erase t) fun u : Fin k1_t1_loop.trips => rowsAt (F := F) d L u (if u.val < t.val then gath ix tb else o0)) := by
  unfold rowsBefore
  rw [SparseCore.bigSep_erase' (Finset.mem_univ t), if_pos (Nat.lt_succ_self _)]
  congr 1
  refine bigSep_congr fun u hu => ?_
  have hne : u.val ≠ t.val := fun h => (Finset.ne_of_mem_erase hu) (Fin.ext h)
  have : (u.val < t.val + 1) = (u.val < t.val) := propext ⟨fun h => by omega, fun h => by omega⟩
  simp only [this]

/-- Every trip's rows untouched, and every trip's rows gathered. -/
theorem rowsBefore_zero :
    rowsBefore d L ix tb o0 0 = (bigSep Finset.univ fun t : Fin k1_t1_loop.trips => rowsAt (F := F) d L t o0 : sProp 𝕄) := by
  unfold rowsBefore; exact bigSep_congr fun t _ => by rw [if_neg (Nat.not_lt_zero _)]
theorem rowsBefore_all :
    rowsBefore d L ix tb o0 k1_t1_loop.trips = (bigSep Finset.univ fun t : Fin k1_t1_loop.trips => rowsAt (F := F) d L t (gath ix tb) : sProp 𝕄) := by
  unfold rowsBefore; exact bigSep_congr fun t _ => by rw [if_pos t.isLt]

variable [FloatOps F]

/-- The loop's invariant: the shares of the indices and of the table, the result's rows (`rowsBefore`), the two scratch
    buffers at some contents, the three cells at zero, and the waits so far at the local index. -/
def inv (O : CellTallies nD τ sig (HIx 1)) (W : Waits sig (HIx 1)) (n : Nat) (_ : PUnit) : sProp 𝕄 :=
  iprop(Transfers.MayWaits (tileAt d L) (none : HIx 1) O
    ∗ ((iV).view.loc (tileAt d L) ↦{qi} (ix : Buf (Elt F) ((iV).view.loc (tileAt d L))))
    ∗ ((xV).view.loc (tileAt d L) ↦{qx} (tb : Buf (Elt F) ((xV).view.loc (tileAt d L))))
    ∗ rowsBefore d L ix tb o0 n
    ∗ (∃ f, (sV).view.loc (tileAt d L) ↦{fullShare} f) ∗ (∃ f, (rV).view.loc (tileAt d L) ↦{fullShare} f)
    ∗ semVal (fetchCell d L) 0 ∗ semVal (gatherCell d L) 0 ∗ semVal (outCell d L) 0
    ∗ ∃ W', ⌜∀ p ∈ W', p ∈ W ∨ p.2 = none⌝ ∗ owes (tileAt d L) O W')

set_option maxHeartbeats 4000000 in
/-- One trip keeps the invariant. -/
theorem trip (hix : ∀ j, (ix j).toNat < 544) (O : CellTallies nD τ sig (HIx 1)) (W : Waits sig (HIx 1)) (t : Fin k1_t1_loop.trips) (u : PUnit) :
    inv d L ix tb o0 qi qx O W t.val u
      ⊢ wp frame (wpE (defs₀ (F := F)) 𝒱₀ (tileAt d L) none) Set.univ
          (k1_t1_body (F := F) L iV (Memref.isWhole_whole _) xV (Memref.isWhole_whole _) oV (Memref.isWhole_whole _)
            sV (Memref.isWhole_whole _) rV (Memref.isWhole_whole _) cc1_scratch2 cc1_scoped0 cc1_scoped1 t u)
          (inv d L ix tb o0 qi qx O W (t.val + 1)) := by
  unfold inv k1_t1_body
  rw [rowsBefore_take, rowsBefore_put]
  iintro ⟨#Hmw, Hi, Hx, ⟨Ho, Hrest⟩, ⟨%fs, Hs⟩, ⟨%fr, Hr⟩, HsF, HsG, HsO, %W', %hW', HO⟩
  sl_exec (disch := exact View.amount_pos _ _ (show 0 < S128.numel by decide))
  -- the gather over the fetched list: the table's slice at the tile's share, the row buffer, the list buffer whole
  have hxs : (tabM).view.set = Finset.univ := by
    ext x; simp only [Finset.mem_univ, iff_true]; exact Finset.mem_map.mpr ⟨x, Finset.mem_univ _, tabM_emb x⟩
  have hss : (sV).view.set = Finset.univ := View.set_whole _
  have hrs : (rV).view.set = Finset.univ := View.set_whole _
  ihave Hx1 := (Entails.of_eq (show ((xV).view.loc (tileAt d L) ↦{qx} (tb : Buf (Elt F) ((xV).view.loc (tileAt d L))) : sProp 𝕄)
      = (tabM).view.loc (tileAt d L) ↦[(tabM).view.set]{qx} tb by rw [hxs])) $$ Hx
  ihave Hr1 := (Entails.of_eq (show ((rV).view.loc (tileAt d L) ↦{fullShare} fr : sProp 𝕄)
      = (rV).view.loc (tileAt d L) ↦[(rV).view.set]{fullShare} fr by rw [hrs])) $$ Hr
  ihave Hs1 := (Entails.of_eq (show ((sV).view.loc (tileAt d L) ↦{fullShare} View.write (Elt F) (sV).view fs (trip.sl.dma0 L ix t) Finset.univ : sProp 𝕄)
      = (sV).view.loc (tileAt d L) ↦[(sV).view.set]{fullShare} View.write (Elt F) (sV).view fs ((idxM L t).view.read (Elt F) ix) Finset.univ
      by rw [hss]; rfl)) $$ Hs
  iapply (SparseCore.wp_indirectGatherLocal countersEmb 𝒱₀ (tileAt d L) none (hg := gathers_S544x128_S128x128) (default : HIx 1)
      (rV).view.dmaCredit (SparseCore.sum_rowCredit_eq_dmaCredit (rV) _ fun _ => rfl) (by decide) (list_inb L ix hix t fs)) $$ [Hx1 Hr1 Hs1 HsG]
  · isplitl [Hx1]; · iexact Hx1
    isplitl [Hr1]; · iexact Hr1
    isplitl [Hs1]; · iexact Hs1
    iexact HsG
  iintro Hfl
  sl_exec
  iapply (Transfers.wp_waitLocalO countersEmb 𝒱₀ (tileAt d L) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr1, Hx1, Hs1⟩, HsG, HO⟩
  ihave Hx := (Entails.of_eq (show ((tabM).view.loc (tileAt d L) ↦[(tabM).view.set]{qx} tb : sProp 𝕄)
      = (xV).view.loc (tileAt d L) ↦{qx} (tb : Buf (Elt F) ((xV).view.loc (tileAt d L))) by rw [hxs])) $$ Hx1
  ihave Hs := (Entails.of_eq (show ((sV).view.loc (tileAt d L) ↦[(sV).view.set]{fullShare} _ : sProp 𝕄)
      = (sV).view.loc (tileAt d L) ↦{fullShare} _ by rw [hss])) $$ Hs1
  ihave Hr := (Entails.of_eq (show ((rV).view.loc (tileAt d L) ↦[(rV).view.set]{fullShare} _ : sProp 𝕄)
      = (rV).view.loc (tileAt d L) ↦{fullShare} _ by rw [hrs])) $$ Hr1
  ihave Ho := (Entails.of_eq (show (rowsAt (F := F) d L t o0 : sProp 𝕄)
      = (outM L t).view.loc (tileAt d L) ↦[(outM L t).view.set]{fullShare} (o0 : Buf (Elt F) ((outM L t).view.loc (tileAt d L))) from rfl)) $$ Ho
  sl_exec (disch := exact View.amount_pos _ _ (show 0 < S128x128.numel by decide))
  sl_step
  ihave Ho := (Entails.of_eq (pointsTo_congr (trip_lands L ix tb o0 hix t (trip.sl.dma0_1 d L ix tb hix t fs fr)
    (rows_read L ix tb hix t fs fr)))) $$ Ho
  isplitl []; · iexact Hmw
  isplitl [Hi]; · iexact Hi
  isplitl [Hx]; · iexact Hx
  isplitl [Ho Hrest]
  · isplitl [Ho]; · iexact Ho
    iexact Hrest
  isplitl [Hs]; · iexists _; iexact Hs
  isplitl [Hr]; · iexists _; iexact Hr
  isplitl [HsF]; · iexact HsF
  isplitl [HsG]; · iexact HsG
  isplitl [HsO]; · iexact HsO
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- What a tile is handed: shares of the indices and of the table, its fifty trips' rows of the result untouched, -/
abbrev tileGo : sProp 𝕄 :=
  iprop((iLoc d ↦{qi} (ix : Buf (Elt F) (iLoc d))) ∗ (xLoc d ↦{qx} (tb : Buf (Elt F) (xLoc d)))
    ∗ bigSep Finset.univ fun t : Fin k1_t1_loop.trips => oLoc d ↦[outSet L t]{fullShare} (o0 : Buf (Elt F) (oLoc d)))

set_option maxHeartbeats 4000000 in
/-- The tile at `L`: it takes its shares and its rows, and gives them back with every row gathered. -/
theorem tile_body (hF : (K (F := F)).Facts) (hix : ∀ j, (ix j).toNat < 544) (O : CellTallies nD τ sig (HIx 1)) (W : Waits sig (HIx 1)) (hO : ∀ g, O g none = 0) :
    iprop(levAts (K (F := F)).L (K (F := F)).lev ∗ emp
        ∗ tileGo d L ix tb o0 qi qx
        ∗ scopedBufs (tileAt d L) ∗ scopedSems0 (tileAt d L) ∗ owes (tileAt d L) O W)
      ⊢ wp frame (wpE (defs₀ (F := F)) 𝒱₀ (tileAt d L) none) Set.univ
          (cc1__sc_gather_body (F := F) L iV (Memref.isWhole_whole _) xV (Memref.isWhole_whole _) oV (Memref.isWhole_whole _)
            sV (Memref.isWhole_whole _) rV (Memref.isWhole_whole _) cc1_scratch2 cc1_scoped0 cc1_scoped1)
          fun _ => iprop(tileGo d L ix tb (gath ix tb) qi qx
            ∗ scopedBufs (tileAt d L) ∗ scopedSems0 (tileAt d L)
            ∗ ∃ W', ⌜∀ p ∈ W', p ∈ W ∨ p.2 = none⌝ ∗ owes (tileAt d L) O W') := by
  simp only [cc1__sc_gather_body_eq_skeleton]; unfold cc1__sc_gather_body_skel
  rw [(K (F := F)).scopedBufs_V hF d ((L 0).castLE hcore1) ((L 1).castLE hsub1), SparseCore.Cfg.scopedSems0_V (Val := Elt F) d ((L 0).castLE hcore1) ((L 1).castLE hsub1), ownSems0_tile, ownBufs_tile]
  iintro ⟨#Hlv, -, ⟨Hi, Hx, Ho⟩, ⟨Hs, Hr, Hbufs⟩, ⟨HsF, HsG, HsO, Hsems⟩, HO⟩
  ihave Hmw := (show levAts (K (F := F)).L (K (F := F)).lev ⊢ Transfers.MayWaits (tileAt d L) (default : HIx 1) O from
    (K (F := F)).mayWaits_none (thr := tileAt d L) hO) $$ Hlv
  sl_exec
  sl_for (inv d L ix tb o0 qi qx O W) $$ [Hmw Hi Hx Ho Hs Hr HsF HsG HsO HO]
  case region =>
    intro k u
    exact trip d L ix tb o0 qi qx hix O W k u
  · unfold inv
    rw [rowsBefore_zero]
    isplitl [Hmw]; · iexact Hmw
    isplitl [Hi]; · iexact Hi
    isplitl [Hx]; · iexact Hx
    isplitl [Ho]; · iexact Ho
    isplitl [Hs]; · iexact Hs
    isplitl [Hr]; · iexact Hr
    isplitl [HsF]; · iexact HsF
    isplitl [HsG]; · iexact HsG
    isplitl [HsO]; · iexact HsO
    iexists W; isplitr
    · ipureintro; exact fun p hp => .inl hp
    · iexact HO
  iintro %_ HI
  ihave HI := (Entails.of_eq (show inv d L ix tb o0 qi qx O W (Scf.trips k1_t1_loop.lb k1_t1_loop.ub k1_t1_loop.st) _
    = inv d L ix tb o0 qi qx O W k1_t1_loop.trips ⟨⟩ from rfl)) $$ HI
  unfold inv
  rw [rowsBefore_all]
  icases HI with ⟨-, Hi, Hx, Ho, Hs, Hr, HsF, HsG, HsO, HW⟩
  sl_exec
  sl_step
  isplitl [Hi Hx Ho]
  · isplitl [Hi]; · iexact Hi
    isplitl [Hx]; · iexact Hx
    iexact Ho
  isplitl [Hs Hr Hbufs]
  · isplitl [Hs]; · iexact Hs
    isplitl [Hr]; · iexact Hr
    iexact Hbufs
  isplitl [HsF HsG HsO Hsems]
  · isplitl [HsF]; · iexact HsF
    isplitl [HsG]; · iexact HsG
    isplitl [HsO]; · iexact HsO
    iexact Hsems
  iexact HW

end Cert.Proof.Idl

end
-- ==== Proof.Idl.Calls.lean ====
/-
  The SparseCore call as a whole: the 1600 chunks are the result (each row in exactly one), shares of the indices and of
  the table go out to the 32 tiles, and each tile's obligation is the tile's own proof.
-/
module

public import proofs.«01_k».proof.Proof.Idl.Tile

@[expose] public section

set_option maxRecDepth 16384

noncomputable section

namespace Cert.Proof.Idl

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.ShareLeaves (leaf pointsTo_leaves)

variable {F : FTy → Type}

local notation "𝕄" => MT nD τ sig (HIx 1) (Elt F) ℕ UU ℕ

/-! ## The chunks are the result -/

theorem trips_eq : k1_t1_loop.trips = 50 := by decide

/-- The grid point of task `i` of SparseCore `c`. -/
abbrev tileL (c : Fin 2) (i : Fin 16) : grid1.Coords := coordsV c i

/-- Chunk `(c, i, t)` is rows `12800·i + 6400·c + 128·t` to the next 128. -/
theorem mem_outSet (c : Fin 2) (i : Fin 16) (t : Fin k1_t1_loop.trips) (y : S204800x128.Idx) :
    y ∈ outSet (tileL c i) t ↔ 12800 * i.val + 6400 * c.val + 128 * t.val ≤ (y 0).val ∧ (y 0).val < 12800 * i.val + 6400 * c.val + 128 * t.val + 128 := by
  have hs : outSet (tileL c i) t
      = (Rect.unit (s := S204800x128) (k1_off2 (tileL c i) t) S128x128.size (k1_off2_inb (tileL c i) t)).set :=
    View.set_slice_whole main_v6_scv _
  have h0 : k1_off2 (tileL c i) t 0 = 12800 * i.val + 6400 * c.val + 128 * t.val := by rw [k1_off2_eq]; rfl
  have h1 : k1_off2 (tileL c i) t 1 = 0 := by rw [k1_off2_eq]; rfl
  rw [hs, Rect.mem_set_unit]
  constructor
  · intro h
    have h' := h 0
    rw [h0] at h'
    exact h'
  · intro h a
    match a with
    | 0 => show k1_off2 (tileL c i) t 0 ≤ _ ∧ _ < k1_off2 (tileL c i) t 0 + 128; rw [h0]; exact h
    | 1 =>
      show k1_off2 (tileL c i) t 1 ≤ _ ∧ _ < k1_off2 (tileL c i) t 1 + 128; rw [h1]
      have h128 : (y 1).val < 128 := (y 1).isLt
      omega

/-- A chunk by its core, task and trip. -/
abbrev Chunk : Type := Fin 2 × Fin 16 × Fin k1_t1_loop.trips
abbrev chunkSet (p : Chunk) : Finset S204800x128.Idx := outSet (tileL p.1 p.2.1) p.2.2

theorem chunks_disjoint : ∀ p ∈ (Finset.univ : Finset Chunk), ∀ p' ∈ (Finset.univ : Finset Chunk), p ≠ p' → Disjoint (chunkSet p) (chunkSet p') := by
  rintro ⟨c, i, t⟩ - ⟨c', i', t'⟩ - hne
  refine Finset.disjoint_left.mpr fun y h h' => hne ?_
  rw [mem_outSet] at h h'
  have ht : t.val < 50 := lt_of_lt_of_eq t.isLt trips_eq
  have ht' : t'.val < 50 := lt_of_lt_of_eq t'.isLt trips_eq
  dsimp only at h h'
  have hc := c.isLt; have hc' := c'.isLt
  have e1 : c = c' := Fin.ext (by omega)
  have e2 : i = i' := Fin.ext (by omega)
  have e3 : t = t' := Fin.ext (by omega)
  rw [e1, e2, e3]

theorem chunks_cover : (Finset.univ : Finset Chunk).biUnion chunkSet = Finset.univ := by
  ext y
  simp only [Finset.mem_biUnion, Finset.mem_univ, true_and, iff_true]
  have hy : (y 0).val < 204800 := (y 0).isLt
  refine ⟨(⟨(y 0).val / 6400 % 2, by omega⟩, ⟨(y 0).val / 12800, by omega⟩, ⟨(y 0).val / 128 % 50, by rw [trips_eq]; omega⟩), ?_⟩
  rw [mem_outSet]
  dsimp only
  omega

/-- The result held whole is its chunks. -/
theorem out_chunks (d : Dev nD) (f : Buf (Elt F) (oLoc d)) :
    (oLoc d ↦{fullShare} f : sProp 𝕄)
      = bigSep Finset.univ fun c : Fin 2 => bigSep Finset.univ fun i : Fin 16 => bigSep Finset.univ fun t : Fin k1_t1_loop.trips =>
          oLoc d ↦[outSet (tileL c i) t]{fullShare} f := by
  have h : (oLoc d ↦{fullShare} f : sProp 𝕄) = bigSep Finset.univ fun p : Chunk => oLoc d ↦[chunkSet p]{fullShare} f := by
    rw [← pointsTo_biUnion Finset.univ (ℓ := oLoc d) chunkSet chunks_disjoint, chunks_cover]
  rw [h, bigSep_univ_prod]
  exact bigSep_congr fun c _ => bigSep_univ_prod _

/-! ## What the handshakes carry -/

variable (ix : Dev nD → S204800.Idx → BitVec 32) (tb : Dev nD → S544x128.Idx → Elt F .f32) (o0 : Dev nD → S204800x128.Idx → Elt F .f32)

/-- SparseCore `c`'s share of an array every tile reads, and task `i`'s of that. -/
abbrev coreQ (c : Fin 2) : PosShare TreeShare := leaf 1 fullShare c
abbrev taskQ (c : Fin 2) (i : Fin 16) : PosShare TreeShare := leaf 4 (coreQ c) i

/-- What SparseCore `c` is handed: its shares of the indices and of the table, its chunks of the result at `o`. -/
abbrev coreGo (d : Dev nD) (c : Fin 2) (o : S204800x128.Idx → Elt F .f32) : sProp 𝕄 :=
  iprop((iLoc d ↦{coreQ c} (ix d : Buf (Elt F) (iLoc d))) ∗ (xLoc d ↦{coreQ c} (tb d : Buf (Elt F) (xLoc d)))
    ∗ bigSep Finset.univ fun i : Fin 16 => bigSep Finset.univ fun t : Fin k1_t1_loop.trips =>
        oLoc d ↦[outSet (tileL c i) t]{fullShare} (o : Buf (Elt F) (oLoc d)))

/-- What its task `i` is handed. -/
abbrev taskGo (d : Dev nD) (c : Fin 2) (i : Fin 16) (o : S204800x128.Idx → Elt F .f32) : sProp 𝕄 :=
  tileGo (F := F) d (tileL c i) (ix d) (tb d) o (taskQ c i) (taskQ c i)

/-- The one call: out go the shares and the chunks as they came, back come the shares and the chunks gathered. -/
def P : (K (F := F)).Pay (nD := nD) (Val := Elt F) (Name := ℕ) (U := UU) where
  st := fun q d c => match q with | 0 => coreGo ix tb d c (o0 d)
  dn := fun q d c => match q with | 0 => coreGo ix tb d c (gath (ix d) (tb d))
  go := fun q d c i => match q with | 0 => taskGo ix tb d c i (o0 d)
  td := fun q d c i => match q with | 0 => taskGo ix tb d c i (gath (ix d) (tb d))
  x := fun _ _ => iprop(emp)

instance P_storable : (P (F := F) ix tb o0).IsStorable where
  st q d c := match q with | 0 => (inferInstance : BI.Storable (upEmb : UEmb _ 𝕄) (coreGo ix tb d c (o0 d)))
  dn q d c := match q with | 0 => (inferInstance : BI.Storable (upEmb : UEmb _ 𝕄) (coreGo ix tb d c (gath (ix d) (tb d))))
  go q d c i := match q with | 0 => (inferInstance : BI.Storable (upEmb : UEmb _ 𝕄) (taskGo ix tb d c i (o0 d)))
  td q d c i := match q with | 0 => (inferInstance : BI.Storable (upEmb : UEmb _ 𝕄) (taskGo ix tb d c i (gath (ix d) (tb d))))

/-- A SparseCore's resources are its sixteen tasks'. -/
theorem core_tasks (d : Dev nD) (c : Fin 2) (o : S204800x128.Idx → Elt F .f32) :
    coreGo ix tb d c o = bigSep Finset.univ fun i : Fin 16 => taskGo ix tb d c i o := by
  have e1 : (iLoc d ↦{coreQ c} (ix d : Buf (Elt F) (iLoc d)) : sProp 𝕄) = bigSep Finset.univ fun i : Fin 16 => iLoc d ↦{taskQ c i} ix d :=
    pointsTo_leaves Finset.univ _ 4 (coreQ c)
  have e2 : (xLoc d ↦{coreQ c} (tb d : Buf (Elt F) (xLoc d)) : sProp 𝕄) = bigSep Finset.univ fun i : Fin 16 => xLoc d ↦{taskQ c i} tb d :=
    pointsTo_leaves Finset.univ _ 4 (coreQ c)
  rw [bigSep_sep', bigSep_sep']
  exact congrArg₂ (fun A B : sProp 𝕄 => iprop(A ∗ B ∗ _)) e1 e2

/-- The three arrays held whole are the two SparseCores' resources. -/
theorem arrays_cores (d : Dev nD) (o : S204800x128.Idx → Elt F .f32) :
    (iprop((iLoc d ↦{fullShare} (ix d : Buf (Elt F) (iLoc d))) ∗ (xLoc d ↦{fullShare} (tb d : Buf (Elt F) (xLoc d)))
        ∗ (oLoc d ↦{fullShare} (o : Buf (Elt F) (oLoc d)))) : sProp 𝕄)
      = bigSep Finset.univ fun c : Fin 2 => coreGo ix tb d c o := by
  have e1 : (iLoc d ↦{fullShare} (ix d : Buf (Elt F) (iLoc d)) : sProp 𝕄) = bigSep Finset.univ fun c : Fin 2 => iLoc d ↦{coreQ c} ix d :=
    pointsTo_leaves Finset.univ _ 1 fullShare
  have e2 : (xLoc d ↦{fullShare} (tb d : Buf (Elt F) (xLoc d)) : sProp 𝕄) = bigSep Finset.univ fun c : Fin 2 => xLoc d ↦{coreQ c} tb d :=
    pointsTo_leaves Finset.univ _ 1 fullShare
  rw [bigSep_sep', bigSep_sep', out_chunks]
  exact congrArg₂ (fun A B : sProp 𝕄 => iprop(A ∗ B ∗ _)) e1 e2

/-! ## The obligations -/

variable [FloatOps F]

theorem vecSplit : (K (F := F)).VecSplit' (P ix tb o0) 0 := by
  intro d c
  show coreGo ix tb d c (o0 d) ⊢ |={Set.univ}=> iprop(
      (bigSep Finset.univ fun i : Fin 16 => taskGo ix tb d c i (o0 d))
      ∗ ((bigSep Finset.univ fun i : Fin 16 => taskGo ix tb d c i (gath (ix d) (tb d))) -∗ coreGo ix tb d c (gath (ix d) (tb d))))
  rw [core_tasks, core_tasks]
  iintro H; imodintro
  isplitl [H]; · iexact H
  iintro H; iexact H

/-- The body a vector subcore runs for the call. -/
theorem defs₀_vector (c : Fin τ.nSC) (s : Fin τ.nSub) :
    defs₀ (F := F) (.scVector c s) 1 ()
      = SparseCore.onTile hcore1 hsub1 (fun c s => cc1__sc_gather_body (coordsV c s)
          iV (Memref.isWhole_whole _) xV (Memref.isWhole_whole _) oV (Memref.isWhole_whole _)
          sV (Memref.isWhole_whole _) rV (Memref.isWhole_whole _) cc1_scratch2 cc1_scoped0 cc1_scoped1) ⟨⟩ c s := rfl

/-- A tile's waits are all at the local index, so they are among those the obligation allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

theorem tileObl (hix : ∀ d j, (ix d j).toNat < 544) : (K (F := F)).TileObl (D (F := F)) 𝒱 (P ix tb o0) v₀ 0 := by
  intro d c i O W hO _ _
  simp only [show (P ix tb o0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (ix d) (tb d) (o0 d) (taskQ c i) (taskQ c i) facts (hix d) O W hO).trans
    (wp_mono frame _ _ fun _ => obl_post)

end Cert.Proof.Idl

end
-- ==== Proof.Idl.Prologue.lean ====
/-
  The TensorCore kernel of the program, pipeline 0 of @main: from the four index arrays and the four padded tables it
  leaves the combined indices and the combined table. Here its body's run, the pipeline's proof data and the region
  itself, entered from and left at every unscoped buffer held at a valuation.
-/
module

public import proofs.«01_k».proof.Proof.Idl.Setup

@[expose] public section

set_option maxRecDepth 16384

noncomputable section

namespace Cert.Proof.Idl

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

variable {F : FTy → Type} [FloatOps F]

local notation "𝕄" => MT nD τ sig (HIx 1) (Elt F) ℕ UU ℕ

/-! ## What the kernel computes -/

/-- The combined indices of the four index arrays, -/
def combIdx (a0 a1 a2 a3 : S1024x200.Idx → BitVec 32) : S1024x200.Idx → BitVec 32 := k0_pay1 (F := F) a0 a1 a2 a3

/-- and the combined table of the four padded tables. -/
def combTab (w0 w1 : S8x128.Idx → Elt F .f32) (w2 : S16x128.Idx → Elt F .f32) (w3 : S8x128.Idx → Elt F .f32) : S544x128.Idx → Elt F .f32 :=
  let v14 : IVec S544x1 32 := iota .tc S544x1 32 [0] iota_S544x1_d0_w32
  k0_pay10 k0_pay2 (k0_pay3 v14) (k0_pay6 v14 5#32 (k0_pay4 v14) (k0_pay5 v14)) (Scalar.select (Scalar.cmpi .eq 5#32 0#32) 1#32 5#32)
    (k0_pay7 v14) (k0_pay8 v14) (k0_pay9 v14) 0#32 w0 w1 w2 w3

/-! ## The body's run -/

/-- Memref `M`'s buffer on core `c` held whole at `f`. -/
abbrev pt (c : Dev nD) {sp : Space} {s : Shape} {e : EltTy} (M : Memref sig .tc sp s e) (f : Buf (Elt F) (M.view.loc (c : Thread nD τ))) : sProp 𝕄 :=
  M.view.loc (c : Thread nD τ) ↦{fullShare} f

set_option maxHeartbeats 4000000 in
/-- The body, from the ten staging buffers held whole: the first eight as they were, the last two at the combined
    indices and the combined table. -/
theorem prologue_run (c : Dev nD) (a0 a1 a2 a3 a8 : S1024x200.Idx → BitVec 32) (w4 w5 w7 : S8x128.Idx → Elt F .f32) (w6 : S16x128.Idx → Elt F .f32)
    (w9 : S544x128.Idx → Elt F .f32) (E : Set ℕ) (Q : PUnit → sProp 𝕄) :
    iprop(pt c (stage0_0 0) a0 ∗ pt c (stage0_1 0) a1 ∗ pt c (stage0_2 0) a2 ∗ pt c (stage0_3 0) a3
        ∗ pt c (stage0_4 0) w4 ∗ pt c (stage0_5 0) w5 ∗ pt c (stage0_6 0) w6 ∗ pt c (stage0_7 0) w7
        ∗ pt c (stage0_8 0) a8 ∗ pt c (stage0_9 0) w9
        ∗ (iprop(pt c (stage0_0 0) a0 ∗ pt c (stage0_1 0) a1 ∗ pt c (stage0_2 0) a2 ∗ pt c (stage0_3 0) a3
            ∗ pt c (stage0_4 0) w4 ∗ pt c (stage0_5 0) w5 ∗ pt c (stage0_6 0) w6 ∗ pt c (stage0_7 0) w7
            ∗ pt c (stage0_8 0) (combIdx (F := F) a0 a1 a2 a3) ∗ pt c (stage0_9 0) (combTab w4 w5 w6 w7)) -∗ Q ⟨⟩))
      ⊢ wp frame (wpE (defs₀ (F := F)) Variants.none c none) E
          (cc0__prologue_body (F := F) (stage0_0 0) (hstage0_0 0) (stage0_1 0) (hstage0_1 0) (stage0_2 0) (hstage0_2 0) (stage0_3 0) (hstage0_3 0)
            (stage0_4 0) (hstage0_4 0) (stage0_5 0) (hstage0_5 0) (stage0_6 0) (hstage0_6 0) (stage0_7 0) (hstage0_7 0) (stage0_8 0) (hstage0_8 0)
            (stage0_9 0) (hstage0_9 0)) Q := by
  simp only [cc0__prologue_body_eq_skeleton, cc0__prologue_body_skel, k0_part4_eq_skeleton, k0_part4_skel, k0_part3_eq_skeleton, k0_part3_skel,
    k0_part2_eq_skeleton, k0_part2_skel, k0_part1_eq_skeleton, k0_part1_skel]
  iintro ⟨H0, H1, H2, H3, H4, H5, H6, H7, H8, H9, Hk⟩
  sl_exec!
  sl_step
  have z : (![0, 0] : Fin 2 → Nat) = fun _ => 0 := by funext a; match a with | 0 => rfl | 1 => rfl
  have e8 : (stage0_8 0).view.writes (Elt F) (stage0_8 0).view.junk (prologue_run.sl.H8_1 a0 a1 a2 a3) = combIdx (F := F) a0 a1 a2 a3 := by
    refine (Memref.write_access_unit_zero_univ (Elt F) cc0_stg8_0 z inb_S1024x200_S1024x200_0_0 _ _).trans ?_
    have r0 := Memref.readAt_unit_zero (Elt F) cc0_stg0_0 z inb_S1024x200_S1024x200_0_0 a0
    have r1 := Memref.readAt_unit_zero (Elt F) cc0_stg1_0 z inb_S1024x200_S1024x200_0_0 a1
    have r2 := Memref.readAt_unit_zero (Elt F) cc0_stg2_0 z inb_S1024x200_S1024x200_0_0 a2
    have r3 := Memref.readAt_unit_zero (Elt F) cc0_stg3_0 z inb_S1024x200_S1024x200_0_0 a3
    exact (congrArg₂ (fun x y => k0_pay1 (F := F) x y _ _) r0 r1).trans (congrArg₂ (fun x y => k0_pay1 (F := F) a0 a1 x y) r2 r3)
  have e9 : (stage0_9 0).view.writes (Elt F) (stage0_9 0).view.junk (prologue_run.sl.H9_1 w4 w5 w7 w6) = combTab w4 w5 w6 w7 := by
    refine (Memref.write_access_unit_zero_univ (Elt F) cc0_stg9_0 z inb_S544x128_S544x128_0_0 _ _).trans ?_
    have r0 := Memref.readAt_unit_zero (Elt F) cc0_stg4_0 z inb_S8x128_S8x128_0_0 w4
    have r1 := Memref.readAt_unit_zero (Elt F) cc0_stg5_0 z inb_S8x128_S8x128_0_0 w5
    have r2 := Memref.readAt_unit_zero (Elt F) cc0_stg6_0 z inb_S16x128_S16x128_0_0 w6
    have r3 := Memref.readAt_unit_zero (Elt F) cc0_stg7_0 z inb_S8x128_S8x128_0_0 w7
    exact (congrArg₂ (fun x y => combTab (F := F) x y _ _) r0 r1).trans (congrArg₂ (fun x y => combTab (F := F) w4 w5 x y) r2 r3)
  iapply Hk
  iframe H0 H1 H2 H3 H4 H5 H6 H7
  isplitl [H8]
  · iapply (Entails.of_eq (congrArg (pt c (stage0_8 0)) e8)); iexact H8
  · iapply (Entails.of_eq (congrArg (pt c (stage0_9 0)) e9)); iexact H9

end Cert.Proof.Idl

end
-- ==== Proof.Idl.Region.lean ====
/-
  The TensorCore kernel as a region of @main: the pipeline's proof data at an entry valuation of the unscoped buffers,
  the body's obligation from its run (`prologue_run`), and the region, entered at a valuation and left at it updated at
  the two results. The core owes the SparseCores their start signals all along; the pipeline's own waits are recorded
  at the launch's lowest level, below all of those.
-/
module

public import proofs.«01_k».proof.Proof.Idl.Prologue
public import Idealize.ShloMosaic.Lib.Pipeline.RegionsLoop

@[expose] public section

set_option maxRecDepth 16384

noncomputable section

namespace Cert.Proof.Idl

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

variable {F : FTy → Type} [FloatOps F]

local notation "𝕄" => MT nD τ sig (HIx 1) (Elt F) ℕ UU ℕ

/-- An unscoped buffer's contents on each device. -/
abbrev Vals (F : FTy → Type) : Type := (c : Dev nD) → (b : Ref sig .tc) → Buf (Elt F) ((c : Thread nD τ).loc b)

variable (V : Vals F)

/-- The two results as functions of the arrays the region finds. -/
abbrev idxOf (c : Dev nD) : S1024x200.Idx → BitVec 32 := combIdx (F := F) (V c main_arg0) (V c main_arg1) (V c main_arg2) (V c main_arg3)
abbrev tabOf (c : Dev nD) : S544x128.Idx → Elt F .f32 := combTab (V c main_v0) (V c main_v1) (V c main_v2) (V c main_v3)

/-- The proof data: the arrays at the entry valuation; after the body the inputs' buffers as fetched and the results'
    at their functions of them; the core owing the start signals, with waits recorded at the lowest level only. -/
def dat (c : Dev nD) : Dat τ (Elt F) (HIx 1) ℕ UU ℕ cfg0 c where
  A w := V c (Pipeline.arrRef spec0 w)
  after w _ := match w with
    | ⟨0, _⟩ => V c main_arg0
    | ⟨1, _⟩ => V c main_arg1
    | ⟨2, _⟩ => V c main_arg2
    | ⟨3, _⟩ => V c main_arg3
    | ⟨4, _⟩ => V c main_v0
    | ⟨5, _⟩ => V c main_v1
    | ⟨6, _⟩ => V c main_v2
    | ⟨7, _⟩ => V c main_v3
    | ⟨8, _⟩ => idxOf V c
    | ⟨9, _⟩ => tabOf V c
  Φ _ := Pipeline.scopedRest (Ix := HIx 1) (Name := ℕ) (U := UU) (Lvl := ℕ) (Val := Elt F) spec0 c
  q _ := fullShare
  owed _ := (K (F := F)).Otc c 0
  recorded _ := {p | p.2 = none}

variable (adm : (p : Fin 1) → (pcfgs (F := F) p).Adm)

/-- The family over the one pipeline. -/
def pdats : (p : Fin 1) → (c : Dev nD) → Dat τ (Elt F) (HIx 1) ℕ UU ℕ (Pipeline.pin (pcfgs (F := F)) adm p) c
  | ⟨0, _⟩ => fun c => dat V c

/-! ## Whole-array windows: a block is its array -/

theorem zero_mul_size {b : Ref sig .tc} : (fun a => 0 * b.ty.shape.size a) = fun _ => 0 := funext fun _ => Nat.zero_mul _

theorem in_blk (b : Ref sig .tc) (a : Fin b.ty.shape.rank) : 0 * b.ty.shape.size a + b.ty.shape.size a ≤ b.ty.shape.size a := by omega

/-- Each fetched window's buffer holds its array as the region finds it when the body runs. -/
theorem before_0 (c : Dev nD) (d : (cfg0.win 0).block.Idx → Elt F (cfg0.win 0).elt) : (dat V c).before 0 t0_0 d = V c main_arg0 := by
  unfold Dat.before; rw [if_pos (by decide)]
  exact Memref.read_access_unit_zero (Elt F) main_arg0 zero_mul_size (in_blk _) (V c main_arg0)
theorem before_1 (c : Dev nD) (d : (cfg0.win 1).block.Idx → Elt F (cfg0.win 1).elt) : (dat V c).before 1 t0_0 d = V c main_arg1 := by
  unfold Dat.before; rw [if_pos (by decide)]
  exact Memref.read_access_unit_zero (Elt F) main_arg1 zero_mul_size (in_blk _) (V c main_arg1)
theorem before_2 (c : Dev nD) (d : (cfg0.win 2).block.Idx → Elt F (cfg0.win 2).elt) : (dat V c).before 2 t0_0 d = V c main_arg2 := by
  unfold Dat.before; rw [if_pos (by decide)]
  exact Memref.read_access_unit_zero (Elt F) main_arg2 zero_mul_size (in_blk _) (V c main_arg2)
theorem before_3 (c : Dev nD) (d : (cfg0.win 3).block.Idx → Elt F (cfg0.win 3).elt) : (dat V c).before 3 t0_0 d = V c main_arg3 := by
  unfold Dat.before; rw [if_pos (by decide)]
  exact Memref.read_access_unit_zero (Elt F) main_arg3 zero_mul_size (in_blk _) (V c main_arg3)
theorem before_4 (c : Dev nD) (d : (cfg0.win 4).block.Idx → Elt F (cfg0.win 4).elt) : (dat V c).before 4 t0_0 d = V c main_v0 := by
  unfold Dat.before; rw [if_pos (by decide)]
  exact Memref.read_access_unit_zero (Elt F) main_v0 zero_mul_size (in_blk _) (V c main_v0)
theorem before_5 (c : Dev nD) (d : (cfg0.win 5).block.Idx → Elt F (cfg0.win 5).elt) : (dat V c).before 5 t0_0 d = V c main_v1 := by
  unfold Dat.before; rw [if_pos (by decide)]
  exact Memref.read_access_unit_zero (Elt F) main_v1 zero_mul_size (in_blk _) (V c main_v1)
theorem before_6 (c : Dev nD) (d : (cfg0.win 6).block.Idx → Elt F (cfg0.win 6).elt) : (dat V c).before 6 t0_0 d = V c main_v2 := by
  unfold Dat.before; rw [if_pos (by decide)]
  exact Memref.read_access_unit_zero (Elt F) main_v2 zero_mul_size (in_blk _) (V c main_v2)
theorem before_7 (c : Dev nD) (d : (cfg0.win 7).block.Idx → Elt F (cfg0.win 7).elt) : (dat V c).before 7 t0_0 d = V c main_v3 := by
  unfold Dat.before; rw [if_pos (by decide)]
  exact Memref.read_access_unit_zero (Elt F) main_v3 zero_mul_size (in_blk _) (V c main_v3)

/-- The two results' arrays after the region. -/
theorem final_8 (c : Dev nD) : (dat V c).arrAt 8 cfg0.N = idxOf V c := by
  rw [show cfg0.N = t0_0.val + 1 from rfl, (dat V c).arrAt_succ (8 : Fin 10) t0_0, flush0_8, if_pos rfl]
  exact Memref.write_access_unit_zero_univ (Elt F) main_v4_0 zero_mul_size (in_blk _) _ (idxOf V c)
theorem final_9 (c : Dev nD) : (dat V c).arrAt 9 cfg0.N = tabOf V c := by
  rw [show cfg0.N = t0_0.val + 1 from rfl, (dat V c).arrAt_succ (9 : Fin 10) t0_0, flush0_9, if_pos rfl]
  exact Memref.write_access_unit_zero_univ (Elt F) main_v4_1 zero_mul_size (in_blk _) _ (tabOf V c)

/-! ## The body's obligation -/

/-- At the one point: the staging buffers taken apart, the run applied, its end reassembled. -/
theorem body_obligation (c : Dev nD) : BodyObligation (dat V c) (defs₀ (F := F)) 𝒱₀ none Set.univ := fun t => by
  obtain rfl := fin_N0 t
  rw [bigSep_W0, bigSep_W0]
  simp only [owns_whole_eq]
  rw [show (dat V c).Φ t0_0.castSucc = (dat V c).Φ t0_0.succ from rfl,
    show (dat V c).owesAt none t0_0.succ = (dat V c).owesAt none t0_0.castSucc from rfl]
  iintro ⟨HΦ, Howes, ⟨%d0, %f0, %h0, H0⟩, ⟨%d1, %f1, %h1, H1⟩, ⟨%d2, %f2, %h2, H2⟩, ⟨%d3, %f3, %h3, H3⟩, ⟨%d4, %f4, %h4, H4⟩,
    ⟨%d5, %f5, %h5, H5⟩, ⟨%d6, %f6, %h6, H6⟩, ⟨%d7, %f7, %h7, H7⟩, ⟨%d8, %f8, -, H8⟩, ⟨%d9, %f9, -, H9⟩⟩
  rw [before_0] at h0; rw [before_1] at h1; rw [before_2] at h2; rw [before_3] at h3
  rw [before_4] at h4; rw [before_5] at h5; rw [before_6] at h6; rw [before_7] at h7
  subst h0; subst h1; subst h2; subst h3; subst h4; subst h5; subst h6; subst h7
  iapply (prologue_run (F := F) c (V c main_arg0) (V c main_arg1) (V c main_arg2) (V c main_arg3) f8 (V c main_v0) (V c main_v1) (V c main_v3) (V c main_v2) f9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  isplitl [H6]; · iexists _; isplitr; swap; (· iexact H6); ipureintro; dsimp only [dat]
  isplitl [H7]; · iexists _; isplitr; swap; (· iexact H7); ipureintro; dsimp only [dat]
  isplitl [H8]; · iexists _; isplitr; swap; (· iexact H8); ipureintro; dsimp only [dat]
  iexists _; isplitr; swap; (· iexact H9); ipureintro; dsimp only [dat]

/-! ## The region -/

/-- What the core owes the SparseCores is at their calls' levels: nothing at the lowest. -/
theorem Otc_none (c : Dev nD) (g : GSem nD τ sig) : (K (F := F)).Otc (N := 1) c 0 g none = 0 := by
  by_contra h
  have := SparseCore.Cfg.lev_of_Otc_pos (K := K (F := F)) (Nat.pos_of_ne_zero h)
  rw [(K (F := F)).lev_none] at this
  omega

variable (Vp : Vals F)

set_option backward.isDefEq.respectTransparency.types false in
/-- The region from the unscoped buffers at `V`, and what the core owes, to the same at `Vp`: any valuation that has
    the two results at their functions of `V` and agrees with `V` elsewhere. -/
def reg (h8 : ∀ c, Vp c main_v4_0 = idxOf V c) (h9 : ∀ c, Vp c main_v4_1 = tabOf V c)
    (hne : ∀ c (b : Ref sig .tc), b ≠ main_v4_0 → b ≠ main_v4_1 → Vp c b = V c b) :
    Pipeline.RegionSeg (pcfgs (F := F)) adm (pdats V adm) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ _ _ fun w s t => (K (F := F)).mayWait_none _ (Otc_none c)
  pre c := iprop(unscopedBufs c (V c) ∗ ∃ W : Waits sig (HIx 1), ⌜∀ p ∈ W, p.2 = none⌝ ∗ owes (c : Thread nD τ) ((K (F := F)).Otc c 0) W)
  post c := iprop(unscopedBufs c (Vp c) ∗ ∃ W : Waits sig (HIx 1), ⌜∀ p ∈ W, p.2 = none⌝ ∗ owes (c : Thread nD τ) ((K (F := F)).Otc c 0) W)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V adm) launch0.win launch0.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V adm 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V adm) ((pdats V adm 0 c).share_full fun _ => rfl) (V c) (Vp c) ((pdats V adm 0 c).arrAt · cfg0.N)
      (fun w => by
        have key : ∀ b : Ref sig .tc, b ≠ main_v4_0 → b ≠ main_v4_1 → V c b = Vp c b := fun b h h' => (hne c b h h').symm
        fin_cases w
        · exact ((pdats V adm 0 c).arrAt_in 0 rfl _).trans (key main_arg0 (by decide) (by decide))
        · exact ((pdats V adm 0 c).arrAt_in 1 rfl _).trans (key main_arg1 (by decide) (by decide))
        · exact ((pdats V adm 0 c).arrAt_in 2 rfl _).trans (key main_arg2 (by decide) (by decide))
        · exact ((pdats V adm 0 c).arrAt_in 3 rfl _).trans (key main_arg3 (by decide) (by decide))
        · exact ((pdats V adm 0 c).arrAt_in 4 rfl _).trans (key main_v0 (by decide) (by decide))
        · exact ((pdats V adm 0 c).arrAt_in 5 rfl _).trans (key main_v1 (by decide) (by decide))
        · exact ((pdats V adm 0 c).arrAt_in 6 rfl _).trans (key main_v2 (by decide) (by decide))
        · exact ((pdats V adm 0 c).arrAt_in 7 rfl _).trans (key main_v3 (by decide) (by decide))
        · exact (final_8 V c).trans (h8 c).symm
        · exact (final_9 V c).trans (h9 c).symm)
      (fun b hb => hne c b (fun h => hb (h ▸ Finset.mem_image.mpr ⟨8, Finset.mem_univ _, rfl⟩)) fun h => hb (h ▸ Finset.mem_image.mpr ⟨9, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · rfl
    iexact HO

end Cert.Proof.Idl

end
-- ==== Proof.Idl.Launch.lean ====
/-
  @main from the launch to the end: the four tables padded, the TensorCore kernel's region, the combined indices read as
  one list, the SparseCore call, its rows read as the result. The memory is followed as a valuation of the device's
  unscoped buffers, one per step, and the launch theorem turns the run into a statement about the program.
-/
module

public import proofs.«01_k».proof.Proof.Idl.Calls
public import proofs.«01_k».proof.Proof.Idl.Region
public import Idealize.ShloMosaic.Lib.Pipeline.Frame

@[expose] public section

set_option maxRecDepth 16384

noncomputable section

namespace Cert.Proof.Idl

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after launchContents)
open Idealize.ShloMosaic.Pipeline (ucRefs)

variable {F : FTy → Type} [FloatOps F]

local notation "𝕄" => MT nD τ sig (HIx 1) (Elt F) ℕ UU ℕ

/-! ## The valuations between the steps -/

/-- The host operations before the region: each table padded below by rows of the converted integer zero. -/
def padOps : List (HloOp τ sig (Elt F)) :=
  [StableHlo.nullary main_c (constantI S_ 32 0#32),
   StableHlo.TRef.unary (.of main_c) main_call0.v0 (sitofp .f32),
   StableHlo.TRef.binary (.of main_arg4 : StableHlo.TRef sig ⟨S3x128, .f32⟩) main_call0.v0 main_call0.v1 (fun x v => pad S8x128 ![0, 0] ![5, 0] ![0, 0] x v pads_S3x128_S8x128_050_000 h_S_),
   StableHlo.nullary main_c_0 (constantI S_ 32 0#32),
   StableHlo.TRef.unary (.of main_c_0) main_call1.v0 (sitofp .f32),
   StableHlo.TRef.binary (.of main_arg5 : StableHlo.TRef sig ⟨S4x128, .f32⟩) main_call1.v0 main_call1.v1 (fun x v => pad S8x128 ![0, 0] ![4, 0] ![0, 0] x v pads_S4x128_S8x128_040_000 h_S_),
   StableHlo.nullary main_c_1 (constantI S_ 32 0#32),
   StableHlo.TRef.unary (.of main_c_1) main_call2.v0 (sitofp .f32),
   StableHlo.TRef.binary (.of main_arg6 : StableHlo.TRef sig ⟨S9x128, .f32⟩) main_call2.v0 main_call2.v1 (fun x v => pad S16x128 ![0, 0] ![7, 0] ![0, 0] x v pads_S9x128_S16x128_070_000 h_S_),
   StableHlo.nullary main_c_2 (constantI S_ 32 0#32),
   StableHlo.TRef.unary (.of main_c_2) main_call3.v0 (sitofp .f32),
   StableHlo.TRef.binary (.of main_arg7 : StableHlo.TRef sig ⟨S5x128, .f32⟩) main_call3.v0 main_call3.v1 (fun x v => pad S8x128 ![0, 0] ![3, 0] ![0, 0] x v pads_S5x128_S8x128_030_000 h_S_)]

/-- The combined indices as one list, and the gathered rows as the result. -/
abbrev flatOp : HloOp τ sig (Elt F) := StableHlo.reshape main_v4_0 main_v5 (rfl : (.i32 : EltTy) = .i32) shapeCasts_S1024x200_S204800
abbrev foldOp : HloOp τ sig (Elt F) := StableHlo.reshape main_v6 main_v7 (rfl : (.f32 : EltTy) = .f32) shapeCasts_S204800x128_S1024x200x128

variable (m : (ℓ : Loc nD τ sig) → Buf (Elt F) ℓ)

/-- The memory after the pads, -/
def V1 (d : Dev nD) : Valuation τ sig (Elt F) := after padOps (launchContents m d)
/-- after the region, -/
def V2 (d : Dev nD) : Valuation τ sig (Elt F) :=
  Function.update (Function.update (V1 m d) ↑main_v4_0 (idxOf (F := F) (fun d b => V1 m d b) d)) ↑main_v4_1 (tabOf (F := F) (fun d b => V1 m d b) d)
/-- after the list is made, -/
def V3 (d : Dev nD) : Valuation τ sig (Elt F) := (flatOp (F := F)).result (V2 m d)
/-- after the SparseCore call, -/
def V4 (d : Dev nD) : Valuation τ sig (Elt F) := Function.update (V3 m d) ↑main_v6 (gath (F := F) (V3 m d ↑main_v5) (V3 m d ↑main_v4_1))
/-- and at the end. -/
def V5 (d : Dev nD) : Valuation τ sig (Elt F) := (foldOp (F := F)).result (V4 m d)

/-! ## A host operation -/

set_option backward.isDefEq.respectTransparency.types false in
/-- A host operation on unscoped buffers takes their valuation to its result on it. -/
theorem hlo_step (d : Dev nD) (op : HloOp τ sig (Elt F)) (h : op.bufs ⊆ StableHlo.tcRefs τ sig) (hf : op.fresh = ∅) (V : Valuation τ sig (Elt F))
    (Φ : PUnit → sProp 𝕄) :
    iprop(boundary (SparseCore.T d : Thread nD τ) ∗ held (SparseCore.T d : Thread nD τ) (ucRefs τ sig) V)
      ⊢ iprop(((boundary (SparseCore.T d : Thread nD τ) ∗ held (SparseCore.T d : Thread nD τ) (ucRefs τ sig) (op.result V)) -∗ Φ ⟨⟩)
        -∗ wp frame (wpE ((K (F := F)).defs (D (F := F))) 𝒱 (SparseCore.T d) none) Set.univ (hlo rfl op (fun _ => .ret ⟨⟩)) Φ) := by
  iintro H Hk
  iapply (StableHlo.wp_hlo_within 𝒱 (SparseCore.T d : Thread nD τ) none Set.univ (Pipeline.sub_ucRefs op h) hf) $$ H
  iintro H
  rw [wp_ret]; imodintro
  iapply Hk; iexact H

/-! ## The region -/

abbrev adm (p : Fin 1) : (pcfgs (F := F) p).Adm := (cfgs p).toPCfg_adm

theorem pinned_inj : Function.Injective (Pipeline.cellOf (nD := nD) (τ := τ) (Pipeline.pin (pcfgs (F := F)) adm)) := cellOf_inj

/-- The ghost state of the region's staging cells. -/
abbrev stageGhost (d : Dev nD) : sProp 𝕄 :=
  iprop(Pipeline.cellsGhost (Pipeline.pin (pcfgs (F := F)) adm) EP 0 d ∗ Pipeline.toksInit (Pipeline.pin (pcfgs (F := F)) adm) EP 0 d)

/-- What the TensorCore owes before the call, with every recorded wait at the lowest level. -/
def owesStart (d : Dev nD) : sProp 𝕄 :=
  iprop(∃ W : Waits sig (HIx 1), ⌜∀ p ∈ W, p.2 = none⌝ ∗ owes (SparseCore.T d : Thread nD τ) ((K (F := F)).Otc d 0) W)

/-- The TensorCore's state before the call: what it owes, taken out and put back. -/
theorem tcSt_owes (d : Dev nD) : ((K (F := F)).tcSt EH d 0 : sProp 𝕄) ⊢ iprop(owesStart d ∗ (owesStart d -∗ (K (F := F)).tcSt EH d 0)) := by
  unfold SparseCore.Cfg.tcSt owesStart
  iintro ⟨⟨%W, %hW, HO⟩, Hrest⟩
  isplitl [HO]
  · iexists W; isplitr
    · ipureintro
      intro p hp
      have h := hW p hp
      rcases hp2 : p.2 with - | q
      · rfl
      · rw [hp2] at h
        have h1 := (K (F := F)).lev_some_pos (SparseCore.T d, p.1) q
        have h0 : 8 * SparseCore.Cfg.Blocks.fst 1 1 0 = 0 := rfl
        omega
    iexact HO
  iintro ⟨%W', %hW', HO⟩
  isplitl [HO]
  · iexists W'; isplitr
    · ipureintro; intro p hp; rw [hW' p hp, (K (F := F)).lev_none]; exact Nat.zero_le _
    iexact HO
  iexact Hrest

theorem V2_tab (d : Dev nD) : V2 m d ↑main_v4_1 = tabOf (F := F) (fun d b => V1 m d b) d := Function.update_self ..
theorem V2_idx (d : Dev nD) : V2 m d ↑main_v4_0 = idxOf (F := F) (fun d b => V1 m d b) d :=
  (Function.update_of_ne (StableHlo.devRef_ne_of_ne (by decide)) _ _).trans (Function.update_self ..)
theorem V2_ne (d : Dev nD) (b : Ref sig .tc) (h : b ≠ main_v4_0) (h' : b ≠ main_v4_1) : V2 m d ↑b = V1 m d ↑b :=
  (Function.update_of_ne (StableHlo.devRef_ne_of_ne h') _ _).trans (Function.update_of_ne (StableHlo.devRef_ne_of_ne h) _ _)

abbrev region [∀ e, Nonempty (Elt F e)] :=
  reg (F := F) (fun d b => V1 m d b) adm (fun d b => V2 m d b) (V2_idx m) (V2_tab m) (V2_ne m)

theorem region_pre [∀ e, Nonempty (Elt F e)] (d : Dev nD) :
    (region m).pre d = iprop(held (SparseCore.T d : Thread nD τ) (ucRefs τ sig) (V1 m d) ∗ owesStart d) := by
  rw [← Pipeline.unscopedBufs_held]; rfl
theorem region_post [∀ e, Nonempty (Elt F e)] (d : Dev nD) :
    (region m).post d = iprop(held (SparseCore.T d : Thread nD τ) (ucRefs τ sig) (V2 m d) ∗ owesStart d) := by
  rw [← Pipeline.unscopedBufs_held]; rfl

set_option backward.isDefEq.respectTransparency.types false in
theorem region_step [∀ e, Nonempty (Elt F e)] (d : Dev nD) (Φ : PUnit → sProp 𝕄) :
    iprop((boundary (SparseCore.T d : Thread nD τ) ∗ held (SparseCore.T d : Thread nD τ) (ucRefs τ sig) (V1 m d))
        ∗ owesStart d ∗ levAts (K (F := F)).L (K (F := F)).lev ∗ stageGhost d
        ∗ ((boundary (SparseCore.T d : Thread nD τ) ∗ held (SparseCore.T d : Thread nD τ) (ucRefs τ sig) (V2 m d)) ∗ owesStart d -∗ Φ ⟨⟩))
      ⊢ wp frame (wpE ((K (F := F)).defs (D (F := F))) 𝒱 (SparseCore.T d) none) Set.univ
          (Prog.lift (.customCall (SparseCore.inner (Pipeline.entry 0)) ())) Φ := by
  have e : (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) .ret : Prog (TpuEff nD τ sig (Elt F) (ΛP (F := F)) .tc) PUnit) := rfl
  rw [e]
  iintro ⟨⟨Hb, Hheld⟩, HO, #Hlev, ⟨Hg, Ht⟩, Hk⟩
  iapply ((K (F := F)).wp_liftProg (D (F := F)) 𝒱 (SparseCore.T d) Set.univ none _ Φ)
  iapply (Pipeline.RegionSeg.wp (pcfgs (F := F)) adm (pdats (fun d b => V1 m d b) adm) none pinned_inj EP defs₀ 𝒱₀ (K (F := F)).L (K (F := F)).lev
    (region m) d none (fun _ h => nomatch h) .ret Φ)
  rw [region_pre, region_post]
  isplitl [Hk]
  · iintro ⟨Hb, Hheld, HO⟩
    rw [wp_ret]; imodintro
    iapply Hk
    isplitr [HO]
    · isplitl [Hb] <;> iassumption
    iexact HO
  isplitl [Hb]; · iexact Hb
  isplitl [Hheld HO]; · isplitl [Hheld] <;> iassumption
  isplitr; · iexact Hlev
  isplitl [Hg] <;> iassumption

/-! ## @main -/

abbrev ixOf (d : Dev nD) : S204800.Idx → BitVec 32 := V3 m d ↑main_v5
abbrev tbOf (d : Dev nD) : S544x128.Idx → Elt F .f32 := V3 m d ↑main_v4_1
abbrev oOf (d : Dev nD) : S204800x128.Idx → Elt F .f32 := V3 m d ↑main_v6
abbrev PM : (K (F := F)).Pay (nD := nD) (Val := Elt F) (Name := ℕ) (U := UU) := P (ixOf m) (tbOf m) (oOf m)

/-- The three buffers of the SparseCore call. -/
def callRefs : Finset (DevRef τ sig) := {(main_v5 : DevRef τ sig), (main_v4_1 : DevRef τ sig), (main_v6 : DevRef τ sig)}

theorem callRefs_sub : callRefs ⊆ ucRefs τ sig := by decide

theorem held_call (d : Dev nD) (V : Valuation τ sig (Elt F)) :
    (held (SparseCore.T d : Thread nD τ) callRefs V : sProp 𝕄)
      = iprop((iLoc d ↦{fullShare} V ↑main_v5) ∗ (xLoc d ↦{fullShare} V ↑main_v4_1) ∗ oLoc d ↦{fullShare} V ↑main_v6) := by
  unfold held callRefs
  rw [SparseCore.bigSep_insert' (by decide), SparseCore.bigSep_insert' (by decide), bigSep_singleton]

/-- What the call leaves is the valuation after it. -/
theorem held_after (d : Dev nD) :
    iprop((bigSep Finset.univ fun c : Fin ((K (F := F)).nCore 0) => (PM m).dn 0 d c) ∗ held (SparseCore.T d : Thread nD τ) (ucRefs τ sig \ callRefs) (V3 m d))
      ⊢ (held (SparseCore.T d : Thread nD τ) (ucRefs τ sig) (V4 m d) : sProp 𝕄) := by
  have e5 : V4 m d ↑main_v5 = V3 m d ↑main_v5 := Function.update_of_ne (StableHlo.devRef_ne_of_ne (by decide)) _ _
  have e4 : V4 m d ↑main_v4_1 = V3 m d ↑main_v4_1 := Function.update_of_ne (StableHlo.devRef_ne_of_ne (by decide)) _ _
  have e6 : V4 m d ↑main_v6 = gath (F := F) (ixOf m d) (tbOf m d) := Function.update_self ..
  rw [StableHlo.held_sub_split _ callRefs_sub (V4 m d), held_call, e5, e4, e6]
  iintro ⟨Hdn, Hrest⟩
  isplitl [Hdn]
  · iapply (Entails.of_eq (arrays_cores (ixOf m) (tbOf m) d (gath (ixOf m d) (tbOf m d))).symm); iexact Hdn
  · iapply (Entails.of_eq (StableHlo.held_congr (SparseCore.T d : Thread nD τ) (S := ucRefs τ sig \ callRefs) (V := V3 m d) (V' := V4 m d) fun b hb =>
      (Function.update_of_ne (fun h => (Finset.mem_sdiff.mp hb).2 (by rw [h]; decide)) _ _).symm)); iexact Hrest

abbrev FIN (d : Dev nD) : sProp 𝕄 := held (SparseCore.T d : Thread nD τ) (ucRefs τ sig) (V5 m d)

variable (ρ : Dev nD → PrngReg)

set_option maxHeartbeats 1000000 in
/-- @main on device `d`'s TensorCore. -/
theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ stageGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, fn_pad.body, fn_pad_0.body, fn_pad_1.body, fn_pad_2.body, wp_bind, wp_pure]
  iintro ⟨#Hctx, Hst, ⟨Hb, Hub, Hts, -⟩, Hgh⟩
  ihave Hlev := (SparseCore.Cfg.ctx_levAts κ) $$ Hctx
  ihave Hheld := (Entails.of_eq (Pipeline.unscopedBufs_held d (launchContents m d))) $$ Hub
  iapply (hlo_step d _ (StableHlo.nullary_bufs_sub ..) rfl _ _) $$ [Hb Hheld]; · isplitl [Hb] <;> iassumption
  iintro H
  iapply (hlo_step d _ (StableHlo.unary_bufs_sub ..) rfl _ _) $$ H; iintro H
  iapply (hlo_step d _ (StableHlo.binary_bufs_sub ..) rfl _ _) $$ H; iintro H
  imodintro
  iapply (hlo_step d _ (StableHlo.nullary_bufs_sub ..) rfl _ _) $$ H; iintro H
  iapply (hlo_step d _ (StableHlo.unary_bufs_sub ..) rfl _ _) $$ H; iintro H
  iapply (hlo_step d _ (StableHlo.binary_bufs_sub ..) rfl _ _) $$ H; iintro H
  imodintro
  iapply (hlo_step d _ (StableHlo.nullary_bufs_sub ..) rfl _ _) $$ H; iintro H
  iapply (hlo_step d _ (StableHlo.unary_bufs_sub ..) rfl _ _) $$ H; iintro H
  iapply (hlo_step d _ (StableHlo.binary_bufs_sub ..) rfl _ _) $$ H; iintro H
  imodintro
  iapply (hlo_step d _ (StableHlo.nullary_bufs_sub ..) rfl _ _) $$ H; iintro H
  iapply (hlo_step d _ (StableHlo.unary_bufs_sub ..) rfl _ _) $$ H; iintro H
  iapply (hlo_step d _ (StableHlo.binary_bufs_sub ..) rfl _ _) $$ H; iintro H
  imodintro
  -- the region, its waits recorded at the lowest level
  ihave Hst' := (tcSt_owes d) $$ Hst
  icases Hst' with ⟨HO, Hback⟩
  iapply (region_step m d _)
  isplitl [H]; · iexact H
  isplitl [HO]; · iexact HO
  isplitl [Hlev]; · iexact Hlev
  isplitl [Hgh]; · iexact Hgh
  iintro ⟨H, HO⟩
  iapply (hlo_step d _ (StableHlo.reshape_bufs_sub ..) rfl _ _) $$ H; iintro ⟨Hb, Hheld⟩
  -- the SparseCore call
  ihave Hheld' := (Entails.of_eq (show held (SparseCore.T d : Thread nD τ) (ucRefs τ sig) ((flatOp (F := F)).result (V2 m d)) = _ from
    StableHlo.held_sub_split (SparseCore.T d : Thread nD τ) callRefs_sub (V3 m d))) $$ Hheld
  icases Hheld' with ⟨Hcall, Hkeep⟩
  ihave Hcall' := (Entails.of_eq ((held_call d (V3 m d)).trans (arrays_cores (ixOf m) (tbOf m) d (oOf m d)))) $$ Hcall
  iapply ((K (F := F)).wp_run (D (F := F)) 𝒱 (EH := EH) (P := PM m) κ d 0)
  isplitr; · iexact Hctx
  isplitl [HO Hback]; · iapply Hback; iexact HO
  isplitl [Hcall']; · iexact Hcall'
  iintro ⟨Hst, Hdn⟩
  ihave Hheld := (held_after m d) $$ [Hdn Hkeep]; · isplitl [Hdn] <;> iassumption
  iapply (hlo_step d _ (StableHlo.reshape_bufs_sub ..) rfl _ _) $$ [Hb Hheld]; · isplitl [Hb] <;> iassumption
  iintro ⟨Hb, Hheld⟩
  imodintro
  isplitl [Hst]; · iexact Hst
  isplitl [Hheld]; · iexact Hheld
  isplitl [Hb] <;> iassumption

/-! ## The launch element -/

def u₀ : UU := (initOf (K (F := F)).hsCells (K (F := F)).hsToks,
  (initOf (Pipeline.cells (Pipeline.pin (pcfgs (F := F)) adm) pinned_inj) (Pipeline.launchToks (Pipeline.pin (pcfgs (F := F)) adm) pinned_inj), 1))

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => stageGhost (F := F) d)
        ∗ bigSep Finset.univ fun thr : Thread nD τ => bigSep Finset.univ fun q : Fin 1 => (PM m).x q thr) := by
  unfold u₀
  iintro Hu
  ihave H := (ownU_pair (initOf (K (F := F)).hsCells (K (F := F)).hsToks) _) $$ Hu
  icases H with ⟨HH, HR⟩
  ihave HR' := (own_pair_emb _ _ _) $$ HR
  icases HR' with ⟨HP, -⟩
  have hg : BI.own (((Emb.inl : Emb UP (UP × Counters)).trans (embR : Emb (UP × Counters) 𝕄))
      (initOf (Pipeline.cells (Pipeline.pin (pcfgs (F := F)) adm) pinned_inj) (Pipeline.launchToks (Pipeline.pin (pcfgs (F := F)) adm) pinned_inj))) ⊢ _ :=
    Pipeline.fund_ghost (Pipeline.pin (pcfgs (F := F)) adm) (EP (F := F)) pinned_inj
  imod hg $$ HP with ⟨Hc, Ht⟩
  imodintro
  isplitl [HH]; · iexact HH
  isplitl [Hc Ht]
  · rw [show (bigSep Finset.univ fun d : Dev nD => stageGhost (F := F) d)
      = iprop((bigSep Finset.univ fun d : Dev nD => bigSep Finset.univ fun p : Fin 1 => Pipeline.cellsGhost (Pipeline.pin (pcfgs (F := F)) adm) (EP (F := F)) p d)
          ∗ bigSep Finset.univ fun d : Dev nD => bigSep Finset.univ fun p : Fin 1 => Pipeline.toksInit (Pipeline.pin (pcfgs (F := F)) adm) (EP (F := F)) p d) from by
      rw [← bigSep_sep']
      exact bigSep_congr fun d _ => by rw [bigSep_univ_of_subsingleton (0 : Fin 1), bigSep_univ_of_subsingleton (0 : Fin 1)]]
    isplitl [Hc] <;> iassumption
  rw [show (bigSep Finset.univ fun thr : Thread nD τ => bigSep Finset.univ fun q : Fin 1 => (PM (F := F) m).x q thr) = bigSep Finset.univ fun _ => iprop(emp) from
    bigSep_congr fun _ _ => bigSep_univ_of_subsingleton (0 : Fin 1), emps]
  iempintro

/-! ## The end -/

/-- Every unscoped buffer of device `d` at its final contents. -/
def atEnd (d : Dev nD) (s' : Phys nD τ sig (Elt F)) : Prop := ∀ b ∈ ucRefs τ sig, s'.mem.mem (d, b) = V5 m d b

theorem hfin (d : Dev nD) (s' : Phys nD τ sig (Elt F)) : iprop(FIN m d ∗ SI s') ⊢ (⌜atEnd m d s'⌝ : sProp 𝕄) := by
  have one : ∀ b ∈ ucRefs τ sig, iprop(FIN m d ∗ SI s') ⊢ (⌜s'.mem.mem (d, b) = V5 m d b⌝ : sProp 𝕄) := fun b hb => by
    unfold FIN held
    rw [SparseCore.bigSep_erase' hb]
    iintro ⟨⟨Hb, -⟩, HSI⟩
    ihave H := (SI_pointsTo_agree (st := s') (ℓ := (d, b)) (I := Finset.univ) (q := fullShare) (f := V5 m d b)) $$ [HSI Hb]
    · isplitl [HSI] <;> iassumption
    icases H with %h
    ipureintro; exact funext fun i => h i (Finset.mem_univ i)
  refine (forall_intro fun b => (forall_intro fun hb => one b hb).trans pure_forall.2).trans pure_forall.2

/-- The whole program's run, every combined index naming a row of the combined table: it ends, every semaphore at zero,
    each device's unscoped buffers at the valuation above. -/
theorem run_main [∀ e, Nonempty (Elt F e)] (hix : ∀ d j, (ixOf m d j).toNat < 544) :
    θ_run (Cert.KernelIdeal.defs (F := F)) (Cert.KernelIdeal.threads (F := F)) ⟨m, fun _ => 0, ρ⟩
      (fun r => (∀ d : Dev nD, ∀ b ∈ ucRefs τ sig, r.2.mem (d, b) = V5 m d b) ∧ r.2.sem = fun _ => 0) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (ixOf m) (tbOf m) (oOf m) hix)
    (fun q _ => match q with | 0 => SparseCore.Cfg.VecSplit.of_plain (vecSplit (ixOf m) (tbOf m) (oOf m)))
    m ρ main (fun d => stageGhost d) (FIN m) (u₀ (F := F)) (sep_elim_left.trans (hu₀ m)) (hmain m ρ) (atEnd m) (hfin m) _ (fun _ h hz => ⟨h, hz⟩)

end Cert.Proof.Idl

end
-- ==== Proof.Idl.Values.lean ====
/-
  The memory at the end, read off the valuations: the eight arguments as they were, and the result as the rows of the
  combined table that the combined indices name, both of the arguments alone.
-/
module

public import proofs.«01_k».proof.Proof.Idl.Launch

@[expose] public section

set_option maxRecDepth 16384

noncomputable section

namespace Cert.Proof.Idl

open Cert.KernelIdeal Cert.KernelIdeal.Gen

open Idealize.ShloMosaic
open Idealize.ShloMosaic.TcCoe
open Idealize.ShloMosaic.StableHlo (after launchContents)
open Idealize.ShloMosaic.Pipeline (ucRefs)

variable {F : FTy → Type} [FloatOps F]
variable (m : (ℓ : Loc nD τ sig) → Buf (Elt F) ℓ)

/-- The four tables, padded by rows of the converted integer zero. -/
def padRing (w : S3x128.Idx → Elt F .f32) : S8x128.Idx → Elt F .f32 :=
  pad S8x128 ![0, 0] ![5, 0] ![0, 0] w (sitofp .f32 (constantI S_ 32 0#32)) pads_S3x128_S8x128_050_000 h_S_
def padCharge (w : S4x128.Idx → Elt F .f32) : S8x128.Idx → Elt F .f32 :=
  pad S8x128 ![0, 0] ![4, 0] ![0, 0] w (sitofp .f32 (constantI S_ 32 0#32)) pads_S4x128_S8x128_040_000 h_S_
def padHyb (w : S9x128.Idx → Elt F .f32) : S16x128.Idx → Elt F .f32 :=
  pad S16x128 ![0, 0] ![7, 0] ![0, 0] w (sitofp .f32 (constantI S_ 32 0#32)) pads_S9x128_S16x128_070_000 h_S_
def padChir (w : S5x128.Idx → Elt F .f32) : S8x128.Idx → Elt F .f32 :=
  pad S8x128 ![0, 0] ![3, 0] ![0, 0] w (sitofp .f32 (constantI S_ 32 0#32)) pads_S5x128_S8x128_030_000 h_S_

/-! ## After the pads -/

theorem V1_arg0 (d : Dev nD) : V1 m d ↑main_arg0 = m ((SparseCore.T d).loc main_arg0) := by
  unfold V1; simp only [padOps, StableHlo.TRef.binary, StableHlo.TRef.unary, StableHlo.TRef.toBuf, StableHlo.TRef.ofBuf, cast_eq]; after_results_simp <;> rfl
theorem V1_arg1 (d : Dev nD) : V1 m d ↑main_arg1 = m ((SparseCore.T d).loc main_arg1) := by
  unfold V1; simp only [padOps, StableHlo.TRef.binary, StableHlo.TRef.unary, StableHlo.TRef.toBuf, StableHlo.TRef.ofBuf, cast_eq]; after_results_simp <;> rfl
theorem V1_arg2 (d : Dev nD) : V1 m d ↑main_arg2 = m ((SparseCore.T d).loc main_arg2) := by
  unfold V1; simp only [padOps, StableHlo.TRef.binary, StableHlo.TRef.unary, StableHlo.TRef.toBuf, StableHlo.TRef.ofBuf, cast_eq]; after_results_simp <;> rfl
theorem V1_arg3 (d : Dev nD) : V1 m d ↑main_arg3 = m ((SparseCore.T d).loc main_arg3) := by
  unfold V1; simp only [padOps, StableHlo.TRef.binary, StableHlo.TRef.unary, StableHlo.TRef.toBuf, StableHlo.TRef.ofBuf, cast_eq]; after_results_simp <;> rfl
theorem V1_arg4 (d : Dev nD) : V1 m d ↑main_arg4 = m ((SparseCore.T d).loc main_arg4) := by
  unfold V1; simp only [padOps, StableHlo.TRef.binary, StableHlo.TRef.unary, StableHlo.TRef.toBuf, StableHlo.TRef.ofBuf, cast_eq]; after_results_simp <;> rfl
theorem V1_arg5 (d : Dev nD) : V1 m d ↑main_arg5 = m ((SparseCore.T d).loc main_arg5) := by
  unfold V1; simp only [padOps, StableHlo.TRef.binary, StableHlo.TRef.unary, StableHlo.TRef.toBuf, StableHlo.TRef.ofBuf, cast_eq]; after_results_simp <;> rfl
theorem V1_arg6 (d : Dev nD) : V1 m d ↑main_arg6 = m ((SparseCore.T d).loc main_arg6) := by
  unfold V1; simp only [padOps, StableHlo.TRef.binary, StableHlo.TRef.unary, StableHlo.TRef.toBuf, StableHlo.TRef.ofBuf, cast_eq]; after_results_simp <;> rfl
theorem V1_arg7 (d : Dev nD) : V1 m d ↑main_arg7 = m ((SparseCore.T d).loc main_arg7) := by
  unfold V1; simp only [padOps, StableHlo.TRef.binary, StableHlo.TRef.unary, StableHlo.TRef.toBuf, StableHlo.TRef.ofBuf, cast_eq]; after_results_simp <;> rfl
theorem V1_pad0 (d : Dev nD) : V1 m d ↑main_v0 = padRing (m ((SparseCore.T d).loc main_arg4)) := by
  unfold V1; simp only [padOps, StableHlo.TRef.binary, StableHlo.TRef.unary, StableHlo.TRef.toBuf, StableHlo.TRef.ofBuf, cast_eq]; after_results_simp <;> rfl
theorem V1_pad1 (d : Dev nD) : V1 m d ↑main_v1 = padCharge (m ((SparseCore.T d).loc main_arg5)) := by
  unfold V1; simp only [padOps, StableHlo.TRef.binary, StableHlo.TRef.unary, StableHlo.TRef.toBuf, StableHlo.TRef.ofBuf, cast_eq]; after_results_simp <;> rfl
theorem V1_pad2 (d : Dev nD) : V1 m d ↑main_v2 = padHyb (m ((SparseCore.T d).loc main_arg6)) := by
  unfold V1; simp only [padOps, StableHlo.TRef.binary, StableHlo.TRef.unary, StableHlo.TRef.toBuf, StableHlo.TRef.ofBuf, cast_eq]; after_results_simp <;> rfl
theorem V1_pad3 (d : Dev nD) : V1 m d ↑main_v3 = padChir (m ((SparseCore.T d).loc main_arg7)) := by
  unfold V1; simp only [padOps, StableHlo.TRef.binary, StableHlo.TRef.unary, StableHlo.TRef.toBuf, StableHlo.TRef.ofBuf, cast_eq]; after_results_simp <;> rfl

/-! ## At the end -/

/-- A buffer that no step after the pads writes ends as the pads leave it. -/
theorem V5_keep (d : Dev nD) (b : Ref sig .tc) (h0 : b ≠ main_v4_0) (h1 : b ≠ main_v4_1) (h5 : b ≠ main_v5) (h6 : b ≠ main_v6) (h7 : b ≠ main_v7) :
    V5 m d ↑b = V1 m d ↑b :=
  (StableHlo.reshape_result_ne main_v6 main_v7 _ _ _ _ _ h7).trans
    ((Function.update_of_ne (StableHlo.devRef_ne_of_ne h6) _ _).trans ((StableHlo.reshape_result_ne main_v4_0 main_v5 _ _ _ _ _ h5).trans (V2_ne m d b h0 h1)))

/-- The eight arguments end as they were. -/
theorem V5_args (d : Dev nD) :
    V5 m d ↑main_arg0 = m ((SparseCore.T d).loc main_arg0)
      ∧ V5 m d ↑main_arg1 = m ((SparseCore.T d).loc main_arg1)
      ∧ V5 m d ↑main_arg2 = m ((SparseCore.T d).loc main_arg2)
      ∧ V5 m d ↑main_arg3 = m ((SparseCore.T d).loc main_arg3)
      ∧ V5 m d ↑main_arg4 = m ((SparseCore.T d).loc main_arg4)
      ∧ V5 m d ↑main_arg5 = m ((SparseCore.T d).loc main_arg5)
      ∧ V5 m d ↑main_arg6 = m ((SparseCore.T d).loc main_arg6)
      ∧ V5 m d ↑main_arg7 = m ((SparseCore.T d).loc main_arg7) :=
  ⟨(V5_keep m d main_arg0 (by decide) (by decide) (by decide) (by decide) (by decide)).trans (V1_arg0 m d),
    (V5_keep m d main_arg1 (by decide) (by decide) (by decide) (by decide) (by decide)).trans (V1_arg1 m d),
    (V5_keep m d main_arg2 (by decide) (by decide) (by decide) (by decide) (by decide)).trans (V1_arg2 m d),
    (V5_keep m d main_arg3 (by decide) (by decide) (by decide) (by decide) (by decide)).trans (V1_arg3 m d),
    (V5_keep m d main_arg4 (by decide) (by decide) (by decide) (by decide) (by decide)).trans (V1_arg4 m d),
    (V5_keep m d main_arg5 (by decide) (by decide) (by decide) (by decide) (by decide)).trans (V1_arg5 m d),
    (V5_keep m d main_arg6 (by decide) (by decide) (by decide) (by decide) (by decide)).trans (V1_arg6 m d),
    (V5_keep m d main_arg7 (by decide) (by decide) (by decide) (by decide) (by decide)).trans (V1_arg7 m d)⟩

/-- The list of combined indices the call reads. -/
theorem ixOf_eq (d : Dev nD) :
    ixOf m d = shapeCast S204800 (combIdx (F := F) (m ((SparseCore.T d).loc main_arg0)) (m ((SparseCore.T d).loc main_arg1))
      (m ((SparseCore.T d).loc main_arg2)) (m ((SparseCore.T d).loc main_arg3))) shapeCasts_S1024x200_S204800 := by
  refine (StableHlo.reshape_result main_v4_0 main_v5 rfl _ _ _ _).trans ?_
  rw [V2_idx, idxOf, V1_arg0, V1_arg1, V1_arg2, V1_arg3]; rfl

/-- The combined table the call reads. -/
theorem tbOf_eq (d : Dev nD) :
    tbOf m d = combTab (padRing (m ((SparseCore.T d).loc main_arg4))) (padCharge (m ((SparseCore.T d).loc main_arg5)))
      (padHyb (m ((SparseCore.T d).loc main_arg6))) (padChir (m ((SparseCore.T d).loc main_arg7))) := by
  refine (StableHlo.reshape_result_ne main_v4_0 main_v5 _ _ _ _ _ (by decide)).trans ?_
  rw [V2_tab, tabOf, V1_pad0, V1_pad1, V1_pad2, V1_pad3]

/-- The result: the gathered rows, read as an array of the index arrays' shape. -/
theorem V5_out (d : Dev nD) : V5 m d ↑main_v7 = shapeCast S1024x200x128 (gath (F := F) (ixOf m d) (tbOf m d)) shapeCasts_S204800x128_S1024x200x128 := by
  refine (StableHlo.reshape_result main_v6 main_v7 rfl _ _ _ _).trans ?_
  rw [V4, Function.update_self]; rfl

end Cert.Proof.Idl

end
-- ==== Proof.Idl.Frame.lean ====
/-
  The program's run under its precondition: every combined index names a row of the combined table, so the run ends with
  the arguments as they were, every semaphore at zero and the result the rows that the combined indices name.
-/
module

public import proofs.«01_k».proof.Proof.Idl.Values
public import proofs.«01_k».proof.Proof.Range

@[expose] public section

set_option maxRecDepth 16384

noncomputable section

namespace Cert.Proof.Idl

open Cert.KernelIdeal Cert.KernelIdeal.Gen

open Idealize.ShloMosaic Idealize.SL.Sem
open Idealize.ShloMosaic.TcCoe
open Idealize.ShloMosaic.Pipeline (ucRefs)

variable {F : FTy → Type} [FloatOps F]

/-- The combined index of four row numbers, as a number: no step of it overflows. -/
theorem combIdx_toNat (a0 a1 a2 a3 : S1024x200.Idx → BitVec 32) (p : S1024x200.Idx)
    (h : (a0 p).toNat < 3 ∧ (a1 p).toNat < 4 ∧ (a2 p).toNat < 9 ∧ (a3 p).toNat < 5) :
    (combIdx (F := F) a0 a1 a2 a3 p).toNat = (a0 p).toNat * 180 + (a1 p).toNat * 45 + (a2 p).toNat * 5 + (a3 p).toNat := by
  obtain ⟨h0, h1, h2, h3⟩ := h
  show (((a0 p * 180#32 + a1 p * 45#32) + a2 p * 5#32) + a3 p).toNat = _
  simp only [BitVec.toNat_add, BitVec.toNat_mul, BitVec.toNat_ofNat]
  omega

/-- The precondition of the program, on every device: the four words of a position are row numbers of the four tables. -/
abbrev Rows (m : (ℓ : Loc nD τ sig) → Buf (Elt F) ℓ) : Prop :=
  ∀ (d : Dev nD) (p : S1024x200.Idx),
    ((m ((SparseCore.T d).loc main_arg0) : S1024x200.Idx → BitVec 32) p).toNat < 3 ∧ ((m ((SparseCore.T d).loc main_arg1) : S1024x200.Idx → BitVec 32) p).toNat < 4
      ∧ ((m ((SparseCore.T d).loc main_arg2) : S1024x200.Idx → BitVec 32) p).toNat < 9 ∧ ((m ((SparseCore.T d).loc main_arg3) : S1024x200.Idx → BitVec 32) p).toNat < 5

variable (m : (ℓ : Loc nD τ sig) → Buf (Elt F) ℓ) (ρ : Dev nD → PrngReg)

theorem ixOf_lt (hm : Rows m) (d : Dev nD) (j : S204800.Idx) : (ixOf m d j).toNat < 544 := by
  rw [ixOf_eq]
  show (combIdx (F := F) _ _ _ _ _).toNat < 544
  rw [combIdx_toNat _ _ _ _ _ (hm d _)]
  have := hm d ((Shape.reshapeEquiv shapeCasts_S1024x200_S204800 j))
  omega

/-- What the run leaves: the result at the last valuation, the arguments, the semaphores. -/
theorem run [∀ e, Nonempty (Elt F e)] (hm : Rows m) :
    θ_run (Cert.KernelIdeal.defs (F := F)) (Cert.KernelIdeal.threads (F := F)) ⟨m, fun _ => 0, ρ⟩ (fun r => (∀ c : Dev nD,
      r.2.mem ((c.tc : Thread nD τ).loc main_v7) = V5 m c ↑main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run _ _ _).mono (fun r h => ⟨fun c => by
    obtain ⟨e0, e1, e2, e3, e4, e5, e6, e7⟩ := V5_args m c
    exact ⟨h.1 c main_v7 (by decide), (h.1 c main_arg0 (by decide)).trans e0, (h.1 c main_arg1 (by decide)).trans e1, (h.1 c main_arg2 (by decide)).trans e2,
      (h.1 c main_arg3 (by decide)).trans e3, (h.1 c main_arg4 (by decide)).trans e4, (h.1 c main_arg5 (by decide)).trans e5,
      (h.1 c main_arg6 (by decide)).trans e6, (h.1 c main_arg7 (by decide)).trans e7⟩, h.2⟩) (run_main m ρ (ixOf_lt m hm))

end Cert.Proof.Idl

end
-- ==== Proof.Sum.Columns.lean ====
/-
  The four columns of the combined table's rows: row `i` adds row `i / 180` of the first table, `i / 45 % 4` of the
  second, `i / 5 % 9` of the third and `i % 5` of the fourth.
-/
module

public import proofs.«01_k».proof.Proof.Idl.Prologue
public import Idealize.ShloMosaic.Lib.WordCmp

@[expose] public section

noncomputable section

namespace Cert.Proof.Sum

open Cert.KernelIdeal Cert.KernelIdeal.Gen Idealize.ShloMosaic Idealize.ShloMosaic.ValueIdx

/-- The row numbers, as the kernel counts them. -/
abbrev rowNo : IVec S544x1 32 := iota .tc S544x1 32 [0] iota_S544x1_d0_w32

/-- The column of the fourth table: the remainder by 5, of the divisor's sign. -/
def chirCol : IVec S544x1 32 :=
  let n : BitVec 32 := Scalar.select (Scalar.cmpi .eq 5#32 0#32) 1#32 5#32
  select (andi (xori (k0_pay9 rowNo) (broadcastTo S544x1 (broadcast S544x1 (Scalar.cmpi .slt n 0#32)) broadcasts_S544x1_S544x1)) (k0_pay8 rowNo))
    (addi (k0_pay7 rowNo) (broadcast S544x1 n)) (k0_pay7 rowNo)

theorem ringCol_at : ∀ i : Fin 544, k0_pay2 (ix2 i (0 : Fin 1)) = BitVec.ofNat 32 (i.val / 180) := by decide +kernel
theorem chargeCol_at : ∀ i : Fin 544, k0_pay3 rowNo (ix2 i (0 : Fin 1)) = BitVec.ofNat 32 (i.val / 45 % 4) := by decide +kernel
theorem hybCol_at : ∀ i : Fin 544, k0_pay6 rowNo 5#32 (k0_pay4 rowNo) (k0_pay5 rowNo) (ix2 i (0 : Fin 1)) = BitVec.ofNat 32 (i.val / 5 % 9) := by decide +kernel
theorem chirCol_at : ∀ i : Fin 544, chirCol (ix2 i (0 : Fin 1)) = BitVec.ofNat 32 (i.val % 5) := by decide +kernel

end Cert.Proof.Sum

end
-- ==== Proof.Sum.Table.lean ====
/-
  The combined table over the extended reals: each of its rows is the sum of the four rows, one of each padded table,
  that its columns name. A product by a matrix of zeros and one single one per row picks a row, zero times anything
  being zero.
-/
module

public import proofs.«01_k».proof.Proof.Sum.Columns
public import Idealize.ShloMosaic.Lib.MatmulPlain
public import Idealize.ShloMosaic.Lib.IdealHost
public import Idealize.ShloMosaic.Lib.Pipeline.Value

@[expose] public section

noncomputable section

namespace Cert.Proof.Sum

open Cert.KernelIdeal Cert.KernelIdeal.Gen Idealize.ShloMosaic Idealize.ShloMosaic.ValueIdx

/-- The entry of the matrix that picks: one where the column's word is the position, zero elsewhere. -/
theorem entry (c k : Nat) (hc : c < 2 ^ 31) (hk : k < 2 ^ 31) :
    (FloatOps.sitofp .f32 ((IntOp.cmpi .eq (BitVec.ofNat 32 c) (BitVec.ofNat 32 k)).setWidth 32) : Ideal .f32) = if c = k then (1 : EReal) else 0 := by
  rw [WordCmp.cmpi_eq_ofNat (by omega) (by omega)]
  show ((((BitVec.ofBool (decide (c = k))).setWidth 32).toInt : ℝ) : EReal) = _
  by_cases h : c = k
  · simp [h]
  · simp [h]

/-- The product of that matrix by a table, read at an element: the table's row that the column names. -/
theorem pick_apply {N : Nat} (hN : N < 2 ^ 31) (col : IVec ⟨2, ![544, 1]⟩ 32) (hb : Shape.Broadcasts ⟨2, ![544, 1]⟩ ⟨2, ![544, N]⟩)
    (hi : Shape.Iotas ⟨2, ![544, N]⟩ .tc 32 [1]) (tab : FVec Ideal ⟨2, ![N, 128]⟩ .f32) (hs : Shape.ShapeCasts ⟨2, ![N, 128]⟩ ⟨2, ![N, 128]⟩) (h32 : 1 < 32)
    (i : Fin 544) (j : Fin 128) (c : Fin N) (hc : col (ix2 i (0 : Fin 1)) = BitVec.ofNat 32 c.val) :
    matmul (DotDims.plain 544 N 128) none
      (sitofp .f32 (extui 32 (cmpi .eq (broadcastTo ⟨2, ![544, N]⟩ col hb) (iota .tc ⟨2, ![544, N]⟩ 32 [1] hi)) h32) : FVec Ideal ⟨2, ![544, N]⟩ .f32)
      (shapeCast ⟨2, ![N, 128]⟩ tab hs) (constant ⟨2, ![544, 128]⟩ .f32 0x00000000#32) (ix2 i j) = tab (ix2 c j) := by
  have e : ∀ k : Fin N, (sitofp .f32 (extui 32 (cmpi .eq (broadcastTo ⟨2, ![544, N]⟩ col hb) (iota .tc ⟨2, ![544, N]⟩ 32 [1] hi)) h32) : FVec Ideal ⟨2, ![544, N]⟩ .f32) (ix2 i k)
      = if c = k then (1 : EReal) else 0 := fun k => by
    have ec : broadcastTo ⟨2, ![544, N]⟩ col hb (ix2 i k) = BitVec.ofNat 32 c.val := by
      refine Eq.trans (congrArg col ?_) hc
      funext a
      match a with
      | ⟨0, _⟩ => rfl
      | ⟨1, _⟩ => rfl
    have ei : iota .tc ⟨2, ![544, N]⟩ 32 [1] hi (ix2 i k) = BitVec.ofNat 32 k.val := by
      rw [WordCmp.iota_at]
      exact congrArg (BitVec.ofNat 32) (show 0 * N + k.val = k.val by omega)
    show (FloatOps.sitofp .f32 ((IntOp.cmpi .eq (broadcastTo ⟨2, ![544, N]⟩ col hb (ix2 i k)) (iota .tc ⟨2, ![544, N]⟩ 32 [1] hi (ix2 i k))).setWidth 32) : Ideal .f32) = _
    rw [ec, ei, entry _ _ (c.isLt.trans hN) (k.isLt.trans hN)]
    exact if_congr Fin.ext_iff.symm rfl rfl
  refine (Ideal.matmul_plain_apply none _ _ _ i j).trans ?_
  rw [shapeCast_self, Finset.sum_eq_single c]
  · rw [e c, if_pos rfl, one_mul]
    show (FloatOps.ofBits .f32 0x00000000#32 : Ideal .f32) + _ = _
    exact (congrArg (· + tab (ix2 c j)) Ideal.ofBits_zero_f32).trans (zero_add _)
  · intro k _ hk
    rw [e k, if_neg (Ne.symm hk), zero_mul]
  · exact fun h => absurd (Finset.mem_univ c) h

end Cert.Proof.Sum

end
-- ==== Proof.Sum.Rows.lean ====
/-
  The kernel's result over the extended reals, read at an element: the sum of the four tables' entries that the four
  indices at its position name.
-/
module

public import proofs.«01_k».proof.Proof.Sum.Table
public import proofs.«01_k».proof.Proof.Idl.Frame
public import Idealize.ShloMosaic.Lib.KernelVsHost

@[expose] public section

noncomputable section

namespace Cert.Proof.Sum

open Cert.KernelIdeal Cert.KernelIdeal.Gen Idealize.ShloMosaic Idealize.ShloMosaic.ValueIdx
open Idealize.ShloMosaic.TcCoe

/-- A row of the combined table is the sum of the four rows its columns name. -/
theorem combTab_apply (w0 w1 : S8x128.Idx → Elt Ideal .f32) (w2 : S16x128.Idx → Elt Ideal .f32) (w3 : S8x128.Idx → Elt Ideal .f32)
    (i : Fin 544) (j : Fin 128) (r : Fin 8) (c : Fin 8) (h : Fin 16) (x : Fin 8)
    (hr : i.val / 180 = r.val) (hc : i.val / 45 % 4 = c.val) (hh : i.val / 5 % 9 = h.val) (hx : i.val % 5 = x.val) :
    Idl.combTab (F := Ideal) w0 w1 w2 w3 (ix2 i j) = w0 (ix2 r j) + w1 (ix2 c j) + w2 (ix2 h j) + w3 (ix2 x j) := by
  have p0 := pick_apply (N := 8) (by decide) k0_pay2 broadcasts_S544x1_S544x8 iota_S544x8_d1_w32 w0 shapeCasts_S8x128_S8x128 natLt_1_32 i j r
    ((ringCol_at i).trans (congrArg _ hr))
  have p1 := pick_apply (N := 8) (by decide) (k0_pay3 rowNo) broadcasts_S544x1_S544x8 iota_S544x8_d1_w32 w1 shapeCasts_S8x128_S8x128 natLt_1_32 i j c
    ((chargeCol_at i).trans (congrArg _ hc))
  have p2 := pick_apply (N := 16) (by decide) (k0_pay6 rowNo 5#32 (k0_pay4 rowNo) (k0_pay5 rowNo)) broadcasts_S544x1_S544x16 iota_S544x16_d1_w32 w2
    shapeCasts_S16x128_S16x128 natLt_1_32 i j h ((hybCol_at i).trans (congrArg _ hh))
  have p3 := pick_apply (N := 8) (by decide) chirCol broadcasts_S544x1_S544x8 iota_S544x8_d1_w32 w3 shapeCasts_S8x128_S8x128 natLt_1_32 i j x
    ((chirCol_at i).trans (congrArg _ hx))
  exact congrArg₂ (· + ·) (congrArg₂ (· + ·) (congrArg₂ (· + ·) p0 p1) p2) p3

/-- A padded table read in a row of the table: the table's own row. -/
theorem pad_row {N M : Nat} (p : Nat) (w : (⟨2, ![N, 128]⟩ : Shape).Idx → Elt Ideal .f32) (v : S_.Idx → Elt Ideal .f32)
    (hp : Shape.Pads ⟨2, ![N, 128]⟩ ![0, 0] ![p, 0] ![0, 0] ⟨2, ![M, 128]⟩) (hu : 0 < S_.numel) (i : Fin M) (k : Fin N) (j : Fin 128) (h : i.val = k.val) :
    pad ⟨2, ![M, 128]⟩ ![0, 0] ![p, 0] ![0, 0] w v hp hu (ix2 i j) = w (ix2 k j) := by
  refine pad_apply_of_inside _ _ _ _ _ _ _ _ _ fun a => ?_
  match a with
  | ⟨0, _⟩ => exact show i.val = 0 + k.val * (0 + 1) by omega
  | ⟨1, _⟩ => exact show j.val = 0 + j.val * (0 + 1) by omega

/-- The sum of the four tables' entries that four words name, in column `j`. -/
def entrySum (w0 : S3x128.Idx → Elt Ideal .f32) (w1 : S4x128.Idx → Elt Ideal .f32) (w2 : S9x128.Idx → Elt Ideal .f32) (w3 : S5x128.Idx → Elt Ideal .f32)
    (r c h x : BitVec 32) (hb : r.toNat < 3 ∧ c.toNat < 4 ∧ h.toNat < 9 ∧ x.toNat < 5) (j : Fin 128) : Elt Ideal .f32 :=
  ((w0 (ix2 ⟨r.toNat, hb.1⟩ j) + w1 (ix2 ⟨c.toNat, hb.2.1⟩ j) + w2 (ix2 ⟨h.toNat, hb.2.2.1⟩ j) + w3 (ix2 ⟨x.toNat, hb.2.2.2⟩ j) : EReal))

/-- The four row numbers are the quotients and remainders of the combined index. -/
theorem digits : ∀ (r : Fin 3) (c : Fin 4) (h : Fin 9) (x : Fin 5),
    (r.val * 180 + c.val * 45 + h.val * 5 + x.val) % 544 / 180 = r.val ∧ (r.val * 180 + c.val * 45 + h.val * 5 + x.val) % 544 / 45 % 4 = c.val
      ∧ (r.val * 180 + c.val * 45 + h.val * 5 + x.val) % 544 / 5 % 9 = h.val ∧ (r.val * 180 + c.val * 45 + h.val * 5 + x.val) % 544 % 5 = x.val := by
  decide +kernel

/-- The gathered rows, read as an array of the index arrays' shape: at an element, the sum of the entries that the four
    words at its position name. -/
theorem gathered_apply (a0 a1 a2 a3 : S1024x200.Idx → BitVec 32)
    (w0 : S3x128.Idx → Elt Ideal .f32) (w1 : S4x128.Idx → Elt Ideal .f32) (w2 : S9x128.Idx → Elt Ideal .f32) (w3 : S5x128.Idx → Elt Ideal .f32)
    (b : Fin 1024) (l : Fin 200) (j : Fin 128)
    (hb : (a0 (ix2 b l)).toNat < 3 ∧ (a1 (ix2 b l)).toNat < 4 ∧ (a2 (ix2 b l)).toNat < 9 ∧ (a3 (ix2 b l)).toNat < 5) :
    shapeCast S1024x200x128 (Idl.gath (F := Ideal) (shapeCast S204800 (Idl.combIdx (F := Ideal) a0 a1 a2 a3) shapeCasts_S1024x200_S204800)
        (Idl.combTab (Idl.padRing w0) (Idl.padCharge w1) (Idl.padHyb w2) (Idl.padChir w3))) shapeCasts_S204800x128_S1024x200x128 (ix3 b l j)
      = entrySum w0 w1 w2 w3 _ _ _ _ hb j := by
  have hp : b.val * 200 + l.val < 204800 := by have := b.isLt; have := l.isLt; omega
  have e1 : shapeCast S204800 (Idl.combIdx (F := Ideal) a0 a1 a2 a3) shapeCasts_S1024x200_S204800 (ix1 (n := 204800) ⟨_, hp⟩)
      = Idl.combIdx (F := Ideal) a0 a1 a2 a3 (ix2 b l) := by
    refine shapeCast_apply _ _ _ _ ?_
    rw [Shape.rowMajor_val_one, Shape.rowMajor_val_two]; rfl
  have hn := Idl.combIdx_toNat (F := Ideal) a0 a1 a2 a3 (ix2 b l) hb
  have hd := digits ⟨_, hb.1⟩ ⟨_, hb.2.1⟩ ⟨_, hb.2.2.1⟩ ⟨_, hb.2.2.2⟩
  refine (shapeCast_apply _ _ _ (ix2 (n0 := 204800) (n1 := 128) ⟨_, hp⟩ j) ?_).trans ?_
  · rw [Shape.rowMajor_val_two, Shape.rowMajor_val_three]
    show (b.val * 200 + l.val) * 128 + j.val = (b.val * 200 + l.val) * 128 + j.val
    rfl
  refine (combTab_apply _ _ _ _ _ j ⟨(a0 (ix2 b l)).toNat, by omega⟩ ⟨(a1 (ix2 b l)).toNat, by omega⟩ ⟨(a2 (ix2 b l)).toNat, by omega⟩
    ⟨(a3 (ix2 b l)).toNat, by omega⟩ ?_ ?_ ?_ ?_).trans ?_
  · show (shapeCast S204800 (Idl.combIdx (F := Ideal) a0 a1 a2 a3) shapeCasts_S1024x200_S204800 (ix1 (n := 204800) ⟨_, hp⟩)).toNat % 544 / 180 = (a0 (ix2 b l)).toNat
    rw [e1, hn]; exact hd.1
  · show (shapeCast S204800 (Idl.combIdx (F := Ideal) a0 a1 a2 a3) shapeCasts_S1024x200_S204800 (ix1 (n := 204800) ⟨_, hp⟩)).toNat % 544 / 45 % 4 = (a1 (ix2 b l)).toNat
    rw [e1, hn]; exact hd.2.1
  · show (shapeCast S204800 (Idl.combIdx (F := Ideal) a0 a1 a2 a3) shapeCasts_S1024x200_S204800 (ix1 (n := 204800) ⟨_, hp⟩)).toNat % 544 / 5 % 9 = (a2 (ix2 b l)).toNat
    rw [e1, hn]; exact hd.2.2.1
  · show (shapeCast S204800 (Idl.combIdx (F := Ideal) a0 a1 a2 a3) shapeCasts_S1024x200_S204800 (ix1 (n := 204800) ⟨_, hp⟩)).toNat % 544 % 5 = (a3 (ix2 b l)).toNat
    rw [e1, hn]; exact hd.2.2.2
  exact congrArg₂ (· + ·) (congrArg₂ (· + ·) (congrArg₂ (· + ·) (pad_row 5 w0 _ _ _ _ ⟨_, hb.1⟩ j rfl) (pad_row 4 w1 _ _ _ _ ⟨_, hb.2.1⟩ j rfl))
    (pad_row 7 w2 _ _ _ _ ⟨_, hb.2.2.1⟩ j rfl)) (pad_row 3 w3 _ _ _ _ ⟨_, hb.2.2.2⟩ j rfl)

variable (m : (ℓ : Loc nD τ sig) → Buf (Elt Ideal) ℓ)

/-- The kernel's result at an element, the indices in range. -/
theorem out_apply (hm : Idl.Rows m) (d : Dev nD) (b : Fin 1024) (l : Fin 200) (j : Fin 128) :
    (Idl.V5 m d ↑main_v7 : S1024x200x128.Idx → Elt Ideal .f32) (ix3 b l j)
      = entrySum (m ((SparseCore.T d).loc main_arg4)) (m ((SparseCore.T d).loc main_arg5)) (m ((SparseCore.T d).loc main_arg6))
          (m ((SparseCore.T d).loc main_arg7)) _ _ _ _ (hm d (ix2 b l)) j := by
  rw [Idl.V5_out, Idl.ixOf_eq, Idl.tbOf_eq]
  exact gathered_apply _ _ _ _ _ _ _ _ b l j (hm d (ix2 b l))

end Cert.Proof.Sum

end
-- ==== Proof.Sum.Reference.lean ====
/-
  The reference's result over the extended reals, read at an element: the same sum of four entries. Each of the four
  lookups guards its gather by a test that the index is in range, and a negative index would count from the table's end:
  in range, neither matters.
-/
module

public import proofs.«01_k».proof.Proof.Sum.Rows
public import proofs.«01_k».proof.Proof.Gen.ReferenceIdeal.Run

@[expose] public section

noncomputable section

namespace Cert.Proof.Sum

open Cert.ReferenceIdeal Cert.ReferenceIdeal.Gen Idealize.ShloMosaic Idealize.ShloMosaic.ValueIdx

/-- The words of an index array, negative ones moved up by `n`, with a third axis of one. -/
def lookIdx (n : BitVec 32) (a : IVec S1024x200 32) : IVec S1024x200x1 32 :=
  broadcastInDim S1024x200x1 ![0, 1] bcast_S1024x200_S1024x200x1_0_1
    (select (cmpi .slt a (broadcastInDim S1024x200 ![] bcast_S_S1024x200 (constantI S_ 32 0#32)))
      (addi a (broadcastInDim S1024x200 ![] bcast_S_S1024x200 (constantI S_ 32 n))) a)

/-- The test of a lookup, one bit for each position: the index at least zero and at most `t`. -/
def lookMask (n t : BitVec 32) (a : IVec S1024x200 32) : IVec S1024x200 1 :=
  Host.reduce IntOp.andi
    (andi (cmpi .sge (lookIdx n a) (broadcastInDim S1024x200x1 ![] bcast_S_S1024x200x1 (constantI S_ 32 0#32)))
      (cmpi .sle (lookIdx n a) (broadcastInDim S1024x200x1 ![0, 1, 2] bcast_S1x1x1_S1024x200x1_0_1_2
        (broadcastInDim S1x1x1 ![2] bcast_S1_S1x1x1_2 (constantI S1 32 t)))))
    (constantI S_ 1 1#1) reducesTo_S1024x200x1_S1024x200_d2 h_S_

/-- One of the reference's four lookups: rows of the table `W` at the words of `a`. -/
def look {N : Nat} (d : GatherDims ⟨2, ![N, 128]⟩ S1024x200x1 S1024x200x128) (n t : BitVec 32) (a : IVec S1024x200 32)
    (W : FVec Ideal ⟨2, ![N, 128]⟩ .f32) : FVec Ideal S1024x200x128 .f32 :=
  select (broadcastInDim S1024x200x128 ![0, 1] bcast_S1024x200_S1024x200x128_0_1 (lookMask n t a)) (Host.gather d W (lookIdx n a))
    (broadcastInDim S1024x200x128 ![] bcast_S_S1024x200x128 (constant S_ .f32 0x7FC00000#32))

/-- The reference's result is the sum of the four lookups. -/
theorem res_eq (m : (ℓ : Loc nD τ sig) → Buf (Elt Ideal) ℓ) (c : Dev nD) :
    Value.res_main_v6 m c
      = (addf (addf (addf (look gather_S3x128_S1024x200x1_S1024x200x128_2_0_n_n_0_2_1128 3#32 2#32 (m ((c.tc : Thread nD τ).loc main_arg0)) (m ((c.tc : Thread nD τ).loc main_arg4)))
          (look gather_S4x128_S1024x200x1_S1024x200x128_2_0_n_n_0_2_1128 4#32 3#32 (m ((c.tc : Thread nD τ).loc main_arg1)) (m ((c.tc : Thread nD τ).loc main_arg5))))
          (look gather_S9x128_S1024x200x1_S1024x200x128_2_0_n_n_0_2_1128 9#32 8#32 (m ((c.tc : Thread nD τ).loc main_arg2)) (m ((c.tc : Thread nD τ).loc main_arg6))))
          (look gather_S5x128_S1024x200x1_S1024x200x128_2_0_n_n_0_2_1128 5#32 4#32 (m ((c.tc : Thread nD τ).loc main_arg3)) (m ((c.tc : Thread nD τ).loc main_arg7))) : FVec Ideal S1024x200x128 .f32) := rfl

/-- A word below `2 ^ 31` is, read signed, the number it is. -/
theorem toInt_small (v : BitVec 32) {N : Nat} (hN : N < 2 ^ 31) (h : v.toNat < N) : v.toInt = (v.toNat : Int) := by
  rw [BitVec.toInt_eq_toNat_cond, if_pos (by omega)]

/-- In range, an index of the lookup is the array's own word. -/
theorem lookIdx_apply {N : Nat} (hN : N < 2 ^ 31) (n : BitVec 32) (a : IVec S1024x200 32) (ha : ∀ p, (a p).toNat < N) (b : Fin 1024) (l : Fin 200) (z : Fin 1) :
    lookIdx n a (ix3 b l z) = a (ix2 b l) := by
  show (select (cmpi .slt a (broadcastInDim S1024x200 ![] bcast_S_S1024x200 (constantI S_ 32 0#32)))
      (addi a (broadcastInDim S1024x200 ![] bcast_S_S1024x200 (constantI S_ 32 n))) a) _ = _
  have hp : ∀ p, (select (cmpi .slt a (broadcastInDim S1024x200 ![] bcast_S_S1024x200 (constantI S_ 32 0#32)))
      (addi a (broadcastInDim S1024x200 ![] bcast_S_S1024x200 (constantI S_ 32 n))) a) p = a p := fun p => by
    show (if IntOp.cmpi .slt (a p) 0#32 = 1#1 then _ else a p) = a p
    refine if_neg fun h => ?_
    have := (WordCmp.ofBool_eq_one_iff _).mp h
    have e2 := toInt_small (a p) hN (ha p)
    simp only [BitVec.slt, decide_eq_true_eq] at this
    rw [e2] at this
    simp at this
    omega
  rw [hp]
  congr 1
  funext x
  match x with
  | ⟨0, _⟩ => rfl
  | ⟨1, _⟩ => rfl

/-- The dimension numbers of a gather of whole rows of a table of `N`, one for each position of an index array. -/
def rowDims (N : Nat) (wf : GatherDims.WF ⟨2, ![N, 128]⟩ S1024x200x1 S1024x200x128 [2] [0] [] [0] [] 2 ![1, 128]) :
    GatherDims ⟨2, ![N, 128]⟩ S1024x200x1 S1024x200x128 where
  offsetDims := [2]
  collapsedSliceDims := [0]
  operandBatchingDims := []
  startIndicesBatchingDims := []
  startIndexMap := [0]
  indexVectorDim := 2
  sliceSizes := ![1, 128]
  wf := wf

/-- Such a gather at an element: the table's entry of that column in the row the index names, the index held to the
    table's rows. -/
theorem gather_row {N : Nat} (wf : GatherDims.WF ⟨2, ![N, 128]⟩ S1024x200x1 S1024x200x128 [2] [0] [] [0] [] 2 ![1, 128])
    (W : FVec Ideal ⟨2, ![N, 128]⟩ .f32) (ix : IVec S1024x200x1 32) (b : Fin 1024) (l : Fin 200) (j : Fin 128) (k : Fin N)
    (hk : min (ix (ix3 b l (0 : Fin 1))).toInt.toNat (N - 1) = k.val) :
    Host.gather (rowDims N wf) W ix (ix3 b l j) = W (ix2 k j) := by
  refine congrArg W (funext fun a => Fin.ext ?_)
  show (rowDims N wf).start (ix3 b l j) ix a + (rowDims N wf).batchCoord (ix3 b l j) a + (rowDims N wf).offCoord (ix3 b l j) a = _
  rw [(rowDims N wf).batchCoord_eq_zero _ _ (List.not_mem_nil)]
  match a with
  | ⟨0, _⟩ =>
    have m0 : (0 : Fin 2) ∈ (rowDims N wf).startIndexMap := List.mem_singleton.mpr rfl
    have hs : (rowDims N wf).siIdx (ix3 b l j) ⟨List.idxOf (0 : Fin 2) (rowDims N wf).startIndexMap, List.idxOf_lt_length_iff.2 m0⟩ = ix3 b l (0 : Fin 1) := by
      funext x
      refine Fin.ext ?_
      match x with
      | ⟨0, _⟩ => rfl
      | ⟨1, _⟩ => rfl
      | ⟨2, _⟩ => rfl
    have ho : (rowDims N wf).offCoord (ix3 b l j) (0 : Fin 2) = 0 :=
      (rowDims N wf).offCoord_eq_zero _ _ fun h => ((GatherDims.mem_sKept _ _).mp h).1 (List.mem_singleton.mpr rfl)
    have ht : (rowDims N wf).start (ix3 b l j) ix (0 : Fin 2) = k.val := by
      unfold GatherDims.start
      rw [dif_pos m0, hs]
      exact hk
    exact (congrArg₂ (fun x y : Nat => x + 0 + y) ht ho)
  | ⟨1, _⟩ =>
    have ht : (rowDims N wf).start (ix3 b l j) ix (1 : Fin 2) = 0 := by
      unfold GatherDims.start
      exact dif_neg (fun h => absurd (List.mem_singleton.mp h) (show ¬(1 : Fin 2) = 0 by decide))
    have ho : (rowDims N wf).offCoord (ix3 b l j) (1 : Fin 2) = j.val := by
      unfold GatherDims.offCoord
      rw [dif_pos ((GatherDims.mem_sKept _ _).mpr ⟨fun h => absurd (List.mem_singleton.mp h) (show ¬(1 : Fin 2) = 0 by decide), List.not_mem_nil⟩)]
      rfl
    exact (congrArg₂ (fun x y : Nat => x + 0 + y) ht ho).trans (by show 0 + 0 + j.val = j.val; omega)

/-- In range, the test of a lookup holds everywhere. -/
theorem lookMask_apply {N : Nat} (hN : N < 2 ^ 31) (n t : BitVec 32) (ht : t.toInt = (N : Int) - 1) (a : IVec S1024x200 32) (ha : ∀ p, (a p).toNat < N)
    (p : S1024x200.Idx) : lookMask n t a p = 1#1 := by
  refine Host.reduce_andi_one _ _ _ _ _ rfl fun i => ?_
  have ei : i = ix3 (i 0) (i 1) (i 2) := by
    funext x
    match x with
    | ⟨0, _⟩ => rfl
    | ⟨1, _⟩ => rfl
    | ⟨2, _⟩ => rfl
  have e : lookIdx n a i = a (ix2 (i 0) (i 1)) := (congrArg (lookIdx n a) ei).trans (lookIdx_apply hN n a ha (i 0) (i 1) (i 2))
  have hv := ha (ix2 (i 0) (i 1))
  have hi := toInt_small _ hN hv
  show IntOp.cmpi .sge (lookIdx n a i) 0#32 &&& IntOp.cmpi .sle (lookIdx n a i) t = 1#1
  rw [e, WordCmp.cmpi_sge_eq, WordCmp.cmpi_sle_eq, hi, ht, decide_eq_true (show (0#32 : BitVec 32).toInt ≤ _ from by show (0 : Int) ≤ _; omega),
    decide_eq_true (by omega)]
  rfl

/-- In range, a lookup at an element is the table's entry that the word names. -/
theorem look_apply {N : Nat} (hN : N < 2 ^ 31) (wf : GatherDims.WF ⟨2, ![N, 128]⟩ S1024x200x1 S1024x200x128 [2] [0] [] [0] [] 2 ![1, 128])
    (n t : BitVec 32) (ht : t.toInt = (N : Int) - 1) (a : IVec S1024x200 32) (ha : ∀ p, (a p).toNat < N) (W : FVec Ideal ⟨2, ![N, 128]⟩ .f32)
    (b : Fin 1024) (l : Fin 200) (j : Fin 128) :
    look (rowDims N wf) n t a W (ix3 b l j) = W (ix2 ⟨(a (ix2 b l)).toNat, ha _⟩ j) := by
  have hs : look (rowDims N wf) n t a W (ix3 b l j) = Host.gather (rowDims N wf) W (lookIdx n a) (ix3 b l j) := by
    rw [look, show lookMask n t a = fun _ => 1#1 from funext (lookMask_apply hN n t ht a ha)]
    exact WordCmp.select_of_eq_one rfl _ _
  refine hs.trans (gather_row wf W _ b l j _ ?_)
  rw [lookIdx_apply hN n a ha, toInt_small _ hN (ha _)]
  show min (a (ix2 b l)).toNat (N - 1) = (a (ix2 b l)).toNat
  have := ha (ix2 b l)
  omega

/-- The reference's result at an element, the indices in range. -/
theorem res_apply (m : (ℓ : Loc nD τ sig) → Buf (Elt Ideal) ℓ) (c : Dev nD)
    (hm : ∀ p : S1024x200.Idx, ((m ((c.tc : Thread nD τ).loc main_arg0) : S1024x200.Idx → BitVec 32) p).toNat < 3
      ∧ ((m ((c.tc : Thread nD τ).loc main_arg1) : S1024x200.Idx → BitVec 32) p).toNat < 4
      ∧ ((m ((c.tc : Thread nD τ).loc main_arg2) : S1024x200.Idx → BitVec 32) p).toNat < 9
      ∧ ((m ((c.tc : Thread nD τ).loc main_arg3) : S1024x200.Idx → BitVec 32) p).toNat < 5) (b : Fin 1024) (l : Fin 200) (j : Fin 128) :
    Value.res_main_v6 m c (ix3 b l j)
      = entrySum (m ((c.tc : Thread nD τ).loc main_arg4)) (m ((c.tc : Thread nD τ).loc main_arg5)) (m ((c.tc : Thread nD τ).loc main_arg6))
          (m ((c.tc : Thread nD τ).loc main_arg7)) _ _ _ _ (hm (ix2 b l)) j := by
  rw [res_eq]
  exact congrArg₂ (· + ·) (congrArg₂ (· + ·) (congrArg₂ (· + ·)
    (look_apply (N := 3) (by decide) gather_S3x128_S1024x200x1_S1024x200x128_2_0_n_n_0_2_1128_wf 3#32 2#32 (by decide) _ (fun p => (hm p).1) _ b l j)
    (look_apply (N := 4) (by decide) gather_S4x128_S1024x200x1_S1024x200x128_2_0_n_n_0_2_1128_wf 4#32 3#32 (by decide) _ (fun p => (hm p).2.1) _ b l j))
    (look_apply (N := 9) (by decide) gather_S9x128_S1024x200x1_S1024x200x128_2_0_n_n_0_2_1128_wf 9#32 8#32 (by decide) _ (fun p => (hm p).2.2.1) _ b l j))
    (look_apply (N := 5) (by decide) gather_S5x128_S1024x200x1_S1024x200x128_2_0_n_n_0_2_1128_wf 5#32 4#32 (by decide) _ (fun p => (hm p).2.2.2) _ b l j)

end Cert.Proof.Sum

end
-- ==== Proof.Algebraic.lean ====
/-
  The value claim: over the extended reals, from memories that agree on the arguments, the kernel and the reference end
  with the same result.
-/
module

public import proofs.«01_k».proof.Defs
public import proofs.«01_k».proof.Proof.Sum.Reference
public import proofs.«01_k».proof.Proof.Gen.Kernel
public import proofs.«01_k».proof.Proof.Gen.Pre_in_range

@[expose] public section

noncomputable section

namespace Cert.Proof

open Idealize.ShloMosaic Idealize.ShloMosaic.ValueIdx Idealize.SL.Sem
open Idealize.ShloMosaic.TcCoe

/-- Two arrays of the result's shape are equal that agree at every element. -/
theorem ext3 {α : Type} (f g : Cert.KernelIdeal.S1024x200x128.Idx → α) (h : ∀ (b : Fin 1024) (l : Fin 200) (j : Fin 128), f (ix3 b l j) = g (ix3 b l j)) : f = g := by
  funext i
  have ei : i = ix3 (i 0) (i 1) (i 2) := by
    funext x
    match x with
    | ⟨0, _⟩ => rfl
    | ⟨1, _⟩ => rfl
    | ⟨2, _⟩ => rfl
  rw [ei]
  exact h (i 0) (i 1) (i 2)

/-- Four words equal and four tables equal: the sums of the entries they name are equal. -/
theorem entrySum_congr {w0 w0' : Cert.KernelIdeal.S3x128.Idx → Elt Ideal .f32} {w1 w1' : Cert.KernelIdeal.S4x128.Idx → Elt Ideal .f32}
    {w2 w2' : Cert.KernelIdeal.S9x128.Idx → Elt Ideal .f32} {w3 w3' : Cert.KernelIdeal.S5x128.Idx → Elt Ideal .f32}
    {a0 a0' a1 a1' a2 a2' a3 a3' : Cert.KernelIdeal.S1024x200.Idx → BitVec 32} (p : Cert.KernelIdeal.S1024x200.Idx)
    (e0 : a0' = a0) (e1 : a1' = a1) (e2 : a2' = a2) (e3 : a3' = a3) (e4 : w0' = w0) (e5 : w1' = w1) (e6 : w2' = w2) (e7 : w3' = w3)
    (h : (a0 p).toNat < 3 ∧ (a1 p).toNat < 4 ∧ (a2 p).toNat < 9 ∧ (a3 p).toNat < 5)
    (h' : (a0' p).toNat < 3 ∧ (a1' p).toNat < 4 ∧ (a2' p).toNat < 9 ∧ (a3' p).toNat < 5) (j : Fin 128) :
    Sum.entrySum w0' w1' w2' w3' _ _ _ _ h' j = Sum.entrySum w0 w1 w2 w3 _ _ _ _ h j := by
  subst e0 e1 e2 e3 e4 e5 e6 e7; rfl

/-- The precondition says that the words are row numbers of the tables. -/
theorem rows_ideal (m : (ℓ : Loc Cert.KernelIdeal.nD Cert.KernelIdeal.τ Cert.KernelIdeal.sig) → Buf (Elt Ideal) ℓ) (h : Cert.Pre_KernelIdeal m) : Idl.Rows m :=
  fun d p => Range.rows _ _ _ _ _ _ _ _ (h d) p

/-- The kernel and the reference agree over the extended reals. -/
theorem algebraic : Cert.algebraic_KernelIdeal_ReferenceIdeal := by
  intro m g m' g' hpre hm
  have hr := rows_ideal m hpre
  refine ⟨fun c => Idl.V5 m c ↑Cert.KernelIdeal.main_v7, ?_, ?_⟩
  · exact (θ_run _ _ _).mono (fun _ h => h.1) (Idl.run m g hr)
  · refine (θ_run _ _ _).mono (fun r h c => ⟨(h c).1.trans ?_, (h c).2⟩) (Cert.ReferenceIdeal.Value.run m' g')
    obtain ⟨e0, e1, e2, e3, e4, e5, e6, e7⟩ := hm c
    have hr' : ∀ p : Cert.ReferenceIdeal.S1024x200.Idx,
        ((m' ((c.tc : Thread Cert.ReferenceIdeal.nD Cert.ReferenceIdeal.τ).loc Cert.ReferenceIdeal.main_arg0) : Cert.ReferenceIdeal.S1024x200.Idx → BitVec 32) p).toNat < 3
        ∧ ((m' ((c.tc : Thread Cert.ReferenceIdeal.nD Cert.ReferenceIdeal.τ).loc Cert.ReferenceIdeal.main_arg1) : Cert.ReferenceIdeal.S1024x200.Idx → BitVec 32) p).toNat < 4
        ∧ ((m' ((c.tc : Thread Cert.ReferenceIdeal.nD Cert.ReferenceIdeal.τ).loc Cert.ReferenceIdeal.main_arg2) : Cert.ReferenceIdeal.S1024x200.Idx → BitVec 32) p).toNat < 9
        ∧ ((m' ((c.tc : Thread Cert.ReferenceIdeal.nD Cert.ReferenceIdeal.τ).loc Cert.ReferenceIdeal.main_arg3) : Cert.ReferenceIdeal.S1024x200.Idx → BitVec 32) p).toNat < 5 := fun p => by
      rw [e0, e1, e2, e3]; exact hr c p
    refine ext3 _ _ fun b l j => ?_
    refine (Sum.res_apply m' c hr' b l j).trans (Eq.trans ?_ (Sum.out_apply m hr c b l j).symm)
    exact entrySum_congr (ix2 b l) e0 e1 e2 e3 e4 e5 e6 e7 (hr c (ix2 b l)) (hr' (ix2 b l)) j

end Cert.Proof

end
-- ==== Proof.lean ====
/-
  The certificate's proof: the frames of the kernel (as floats and over the extended reals) and of the reference, and the
  value claim. The kernel's run is in Bit/ and Idl/ (the same modules at the two readings of the program), what it
  computes is in Sum/, and Algebraic joins it to the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import proofs.«01_k».proof.Proof.Gen.ReferenceIdeal.Run
public import proofs.«01_k».proof.Proof.Bit.Frame
public import proofs.«01_k».proof.Proof.Idl.Frame
public import proofs.«01_k».proof.Proof.Algebraic
public import Idealize.ShloMosaic.Adequacy
public import Idealize.ShloMosaic.Init

@[expose] public section

noncomputable section

namespace Cert.Proof

open Idealize.ShloMosaic Idealize.SL.Sem

/-- The kernel's frame: it runs, keeps its arguments and ends with every semaphore at zero. -/
theorem frame_kernel : Cert.quiescent_Kernel := fun m g hpre =>
  (θ_run _ _ _).mono (fun _ h => ⟨fun c => (h.1 c).2, h.2⟩) (Bit.run m g fun d p => Range.rows _ _ _ _ _ _ _ _ (hpre d) p)

/-- The same of the kernel read over the extended reals. -/
theorem frame_kernelIdeal : Cert.quiescent_KernelIdeal := fun m g hpre =>
  (θ_run _ _ _).mono (fun _ h => ⟨fun c => (h.1 c).2, h.2⟩) (Idl.run m g (rows_ideal m hpre))

/-- The reference's frame, -/
theorem frame_reference : Cert.quiescent_ReferenceIdeal := fun m g _ =>
  (θ_run _ _ _).mono (fun r h => ⟨fun c => (h c).2, Idealize.ShloMosaic.sem_eq_zero_of_no_sems (by decide) r.2⟩) (Cert.ReferenceIdeal.Value.run m g)

/-- and the same where the indices are in range. -/
theorem frame_reference_in_range : Cert.quiescent_ReferenceIdeal_pre_in_range := fun m g _ =>
  (θ_run _ _ _).mono (fun r h => ⟨fun c => (h c).2, Idealize.ShloMosaic.sem_eq_zero_of_no_sems (by decide) r.2⟩) (Cert.ReferenceIdeal.Value.run m g)

theorem claim : Cert.Claim := ⟨Cert.Kernel.Gen.facts, Cert.KernelIdeal.Gen.facts, Cert.ReferenceIdeal.Gen.facts, Cert.Pre_in_range.Gen.facts,
  frame_kernel, frame_kernelIdeal, frame_reference, frame_reference_in_range, trivial, algebraic⟩

end Cert.Proof

end
